-- ==== Defs.lean ====
def Pre_Kernel [hPre_drawn : Cert.Pre_drawn.Facts] (m : (ℓ : Loc Cert.Kernel.nD Cert.Kernel.τ Cert.Kernel.sig) → Buf (Elt Bits) ℓ) : Prop :=
  ∀ c : Dev Cert.Kernel.nD,
    (Cert.Pre_drawn.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_drawn_finite [hPre_drawn_finite : Cert.Pre_drawn_finite.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn_finite [hPre_drawn_finite : Cert.Pre_drawn_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_drawn : Cert.Pre_drawn.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_drawn_finite [hKernelIdeal : Cert.KernelIdeal.Facts] [hPre_drawn_finite : Cert.Pre_drawn_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_drawn_finite [hReferenceIdeal : Cert.ReferenceIdeal.Facts] [hPre_drawn_finite : Cert.Pre_drawn_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "s" .f32 0x3586386D#32 ((1 / 999980 : ℝ) : EReal)
  ∧ IdealRules.named_const.Statement Cert.KernelIdeal.κ "s_sub_conf" .f32 0xBF666656#32 ((-899981 / 999980 : ℝ) : EReal)
  ∧ IdealRules.named_const.Statement Cert.KernelIdeal.κ "s_log_s" .f32 0xB767CA44#32 (((1 / 999980) * (Real.log (1 / 999980)) : ℝ) : EReal)

def algebraic_KernelIdeal_ReferenceIdeal_pre_drawn_finite [hKernelIdeal : Cert.KernelIdeal.Facts] [hReferenceIdeal : Cert.ReferenceIdeal.Facts] [hPre_drawn_finite : Cert.Pre_drawn_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_drawn : Cert.Pre_drawn.Facts) (hPre_drawn_finite : Cert.Pre_drawn_finite.Facts),
    quiescent_Kernel (hKernel := hKernel) (hPre_drawn := hPre_drawn)
    ∧ quiescent_KernelIdeal (hKernelIdeal := hKernelIdeal) (hPre_drawn := hPre_drawn)
    ∧ quiescent_KernelIdeal_pre_drawn_finite (hKernelIdeal := hKernelIdeal) (hPre_drawn_finite := hPre_drawn_finite)
    ∧ quiescent_ReferenceIdeal (hReferenceIdeal := hReferenceIdeal)
    ∧ quiescent_ReferenceIdeal_pre_drawn_finite (hReferenceIdeal := hReferenceIdeal) (hPre_drawn_finite := hPre_drawn_finite)
    ∧ preserves_Kernel_KernelIdeal
    ∧ algebraic_KernelIdeal_ReferenceIdeal_pre_drawn_finite (hKernelIdeal := hKernelIdeal) (hReferenceIdeal := hReferenceIdeal) (hPre_drawn_finite := hPre_drawn_finite)
-- ==== Pre_drawn.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Pre_drawn_finite.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x100000 : S_.BroadcastsInDim S1024x100000 (![] : Fin 0 → Fin S1024x100000.rank)
  reducesTo_S1024x100000_S_d0_1 : S1024x100000.ReducesTo [0, 1] S_

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_v6 : FVec F S1024x100000 .f32 := Host.absf main_arg0
  let main_cst : FVec F S_ .f32 := constant S_ .f32 0x7F800000#32
  let main_v7 : FVec F S1024x100000 .f32 := broadcastInDim S1024x100000 ![] bcast_S_S1024x100000 main_cst
  let main_v8 : IVec S1024x100000 1 := cmpf .olt main_v6 main_v7
  let main_c_2 : IVec S_ 1 := constantI S_ 1 1#1
  let main_v9 : IVec S_ 1 := (fun x v => Host.reduce IntOp.andi x v reducesTo_S1024x100000_S_d0_1 h_S_) main_v8 main_c_2
  let main_v10 : IVec S_ 1 := andi main_v5 main_v9
  main_v10
-- ==== Kernel.lean ====
abbrev S1024x100000 : Shape := ⟨2, ![1024, 100000]⟩
abbrev S1024 : Shape := ⟨1, ![1024]⟩
abbrev S_ : Shape := ⟨0, ![]⟩
abbrev S1x1 : Shape := ⟨2, ![1, 1]⟩
abbrev S16x100000 : Shape := ⟨2, ![16, 100000]⟩
abbrev S1x16x100000 : Shape := ⟨3, ![1, 16, 100000]⟩
abbrev S1 : Shape := ⟨1, ![1]⟩
abbrev S1x1x1 : Shape := ⟨3, ![1, 1, 1]⟩
abbrev S32x16 : Shape := ⟨2, ![32, 16]⟩
abbrev S32 : Shape := ⟨1, ![32]⟩
abbrev S32x128 : Shape := ⟨2, ![32, 128]⟩
abbrev S16 : Shape := ⟨1, ![16]⟩
abbrev S1x16 : Shape := ⟨2, ![1, 16]⟩

abbrev nBuf : Table → Nat
  | .hbm => 26
  | .local .tc .vmem => 4
  | .local .tc .smem => 1
  | .local .scVector .vmem => 4
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S32x16, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local .tc .vmem, ⟨0, _⟩ => ⟨S16x100000, .f32⟩
  | .local .tc .vmem, ⟨1, _⟩ => ⟨S16x100000, .f32⟩
  | .local .tc .vmem, ⟨2, _⟩ => ⟨S16x100000, .f32⟩
  | .local .tc .vmem, ⟨3, _⟩ => ⟨S16x100000, .f32⟩
  | .local .tc .smem, ⟨0, _⟩ => ⟨S1x1, .f32⟩
  | .local .scVector .vmem, ⟨0, _⟩ => ⟨S32, .i32⟩
  | .local .scVector .vmem, ⟨1, _⟩ => ⟨S32x128, .f32⟩
  | .local .scVector .vmem, ⟨2, _⟩ => ⟨S32x128, .f32⟩
  | .local .scVector .vmem, ⟨3, _⟩ => ⟨S16, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_cst_2 : Ref sig .tc := ⟨.hbm, 7, rfl⟩
abbrev main_v2 : Ref sig .tc := ⟨.hbm, 8, rfl⟩
abbrev main_cst_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev main_arg0_scv : Ref sig .scVector := ⟨.hbm, 0, rfl⟩
abbrev main_arg1_scv : Ref sig .scVector := ⟨.hbm, 1, rfl⟩
abbrev main_v10_scv : Ref sig .scVector := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k1_mult1 (v9 : BitVec 32) : BitVec 32 :=
  v9

def k1_off2 (i : grid1.Coords) (v9 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v11 : BitVec 32 := Scalar.addi v2 c0_i32
  let v10 : BitVec 32 := v9
  ![v11.toNat, v10.toNat]
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3 : BitVec 32 := 0#32
  let v20 : BitVec 32 := Scalar.addi v2 c0_i32_3
  let c0_i32_6 : BitVec 32 := 0#32
  ![v20.toNat, 0]
def k1_mult2 (v30 : BitVec 32) : BitVec 32 :=
  v30

def k1_off4 (i : grid1.Coords) (v30 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32 : BitVec 32 := 1#32
  let v32 : BitVec 32 := Scalar.addi v2 c1_i32
  let v31 : BitVec 32 := v30
  ![v32.toNat, v31.toNat]
def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32_12 : BitVec 32 := 1#32
  let v41 : BitVec 32 := Scalar.addi v2 c1_i32_12
  let c0_i32_15 : BitVec 32 := 0#32
  ![v41.toNat, 0]
def k1_mult3 (v51 : BitVec 32) : BitVec 32 :=
  v51

def k1_off6 (i : grid1.Coords) (v51 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_18 : BitVec 32 := 2#32
  let v53 : BitVec 32 := Scalar.addi v2 c2_i32_18
  let v52 : BitVec 32 := v51
  ![v53.toNat, v52.toNat]
def k1_off7 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_22 : BitVec 32 := 2#32
  let v62 : BitVec 32 := Scalar.addi v2 c2_i32_22
  let c0_i32_25 : BitVec 32 := 0#32
  ![v62.toNat, 0]
def k1_mult4 (v72 : BitVec 32) : BitVec 32 :=
  v72

def k1_off8 (i : grid1.Coords) (v72 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32 : BitVec 32 := 3#32
  let v74 : BitVec 32 := Scalar.addi v2 c3_i32
  let v73 : BitVec 32 := v72
  ![v74.toNat, v73.toNat]
def k1_off9 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_31 : BitVec 32 := 3#32
  let v83 : BitVec 32 := Scalar.addi v2 c3_i32_31
  let c0_i32_34 : BitVec 32 := 0#32
  ![v83.toNat, 0]
def k1_mult5 (v93 : BitVec 32) : BitVec 32 :=
  v93

def k1_off10 (i : grid1.Coords) (v93 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c4_i32 : BitVec 32 := 4#32
  let v95 : BitVec 32 := Scalar.addi v2 c4_i32
  let v94 : BitVec 32 := v93
  ![v95.toNat, v94.toNat]
def k1_off11 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c4_i32_40 : BitVec 32 := 4#32
  let v104 : BitVec 32 := Scalar.addi v2 c4_i32_40
  let c0_i32_43 : BitVec 32 := 0#32
  ![v104.toNat, 0]
def k1_mult6 (v114 : BitVec 32) : BitVec 32 :=
  v114

def k1_off12 (i : grid1.Coords) (v114 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c5_i32 : BitVec 32 := 5#32
  let v116 : BitVec 32 := Scalar.addi v2 c5_i32
  let v115 : BitVec 32 := v114
  ![v116.toNat, v115.toNat]
def k1_off13 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c5_i32_49 : BitVec 32 := 5#32
  let v125 : BitVec 32 := Scalar.addi v2 c5_i32_49
  let c0_i32_52 : BitVec 32 := 0#32
  ![v125.toNat, 0]
def k1_mult7 (v135 : BitVec 32) : BitVec 32 :=
  v135

def k1_off14 (i : grid1.Coords) (v135 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c6_i32 : BitVec 32 := 6#32
  let v137 : BitVec 32 := Scalar.addi v2 c6_i32
  let v136 : BitVec 32 := v135
  ![v137.toNat, v136.toNat]
def k1_off15 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c6_i32_58 : BitVec 32 := 6#32
  let v146 : BitVec 32 := Scalar.addi v2 c6_i32_58
  let c0_i32_61 : BitVec 32 := 0#32
  ![v146.toNat, 0]
def k1_mult8 (v156 : BitVec 32) : BitVec 32 :=
  v156

def k1_off16 (i : grid1.Coords) (v156 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c7_i32 : BitVec 32 := 7#32
  let v158 : BitVec 32 := Scalar.addi v2 c7_i32
  let v157 : BitVec 32 := v156
  ![v158.toNat, v157.toNat]
def k1_off17 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c7_i32_67 : BitVec 32 := 7#32
  let v167 : BitVec 32 := Scalar.addi v2 c7_i32_67
  let c0_i32_70 : BitVec 32 := 0#32
  ![v167.toNat, 0]
def k1_mult9 (v177 : BitVec 32) : BitVec 32 :=
  v177

def k1_off18 (i : grid1.Coords) (v177 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32 : BitVec 32 := 8#32
  let v179 : BitVec 32 := Scalar.addi v2 c8_i32
  let v178 : BitVec 32 := v177
  ![v179.toNat, v178.toNat]
def k1_off19 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_76 : BitVec 32 := 8#32
  let v188 : BitVec 32 := Scalar.addi v2 c8_i32_76
  let c0_i32_79 : BitVec 32 := 0#32
  ![v188.toNat, 0]
def k1_mult10 (v198 : BitVec 32) : BitVec 32 :=
  v198

def k1_off20 (i : grid1.Coords) (v198 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c9_i32 : BitVec 32 := 9#32
  let v200 : BitVec 32 := Scalar.addi v2 c9_i32
  let v199 : BitVec 32 := v198
  ![v200.toNat, v199.toNat]
def k1_off21 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c9_i32_85 : BitVec 32 := 9#32
  let v209 : BitVec 32 := Scalar.addi v2 c9_i32_85
  let c0_i32_88 : BitVec 32 := 0#32
  ![v209.toNat, 0]
def k1_mult11 (v219 : BitVec 32) : BitVec 32 :=
  v219

def k1_off22 (i : grid1.Coords) (v219 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c10_i32 : BitVec 32 := 10#32
  let v221 : BitVec 32 := Scalar.addi v2 c10_i32
  let v220 : BitVec 32 := v219
  ![v221.toNat, v220.toNat]
def k1_off23 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c10_i32_94 : BitVec 32 := 10#32
  let v230 : BitVec 32 := Scalar.addi v2 c10_i32_94
  let c0_i32_97 : BitVec 32 := 0#32
  ![v230.toNat, 0]
def k1_mult12 (v240 : BitVec 32) : BitVec 32 :=
  v240

def k1_off24 (i : grid1.Coords) (v240 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c11_i32 : BitVec 32 := 11#32
  let v242 : BitVec 32 := Scalar.addi v2 c11_i32
  let v241 : BitVec 32 := v240
  ![v242.toNat, v241.toNat]
def k1_off25 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c11_i32_103 : BitVec 32 := 11#32
  let v251 : BitVec 32 := Scalar.addi v2 c11_i32_103
  let c0_i32_106 : BitVec 32 := 0#32
  ![v251.toNat, 0]
def k1_mult13 (v261 : BitVec 32) : BitVec 32 :=
  v261

def k1_off26 (i : grid1.Coords) (v261 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c12_i32 : BitVec 32 := 12#32
  let v263 : BitVec 32 := Scalar.addi v2 c12_i32
  let v262 : BitVec 32 := v261
  ![v263.toNat, v262.toNat]
def k1_off27 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c12_i32_112 : BitVec 32 := 12#32
  let v272 : BitVec 32 := Scalar.addi v2 c12_i32_112
  let c0_i32_115 : BitVec 32 := 0#32
  ![v272.toNat, 0]
def k1_mult14 (v282 : BitVec 32) : BitVec 32 :=
  v282

def k1_off28 (i : grid1.Coords) (v282 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c13_i32 : BitVec 32 := 13#32
  let v284 : BitVec 32 := Scalar.addi v2 c13_i32
  let v283 : BitVec 32 := v282
  ![v284.toNat, v283.toNat]
def k1_off29 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c13_i32_121 : BitVec 32 := 13#32
  let v293 : BitVec 32 := Scalar.addi v2 c13_i32_121
  let c0_i32_124 : BitVec 32 := 0#32
  ![v293.toNat, 0]
def k1_mult15 (v303 : BitVec 32) : BitVec 32 :=
  v303

def k1_off30 (i : grid1.Coords) (v303 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c14_i32 : BitVec 32 := 14#32
  let v305 : BitVec 32 := Scalar.addi v2 c14_i32
  let v304 : BitVec 32 := v303
  ![v305.toNat, v304.toNat]
def k1_off31 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c14_i32_130 : BitVec 32 := 14#32
  let v314 : BitVec 32 := Scalar.addi v2 c14_i32_130
  let c0_i32_133 : BitVec 32 := 0#32
  ![v314.toNat, 0]
def k1_mult16 (v324 : BitVec 32) : BitVec 32 :=
  v324

def k1_off32 (i : grid1.Coords) (v324 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c15_i32 : BitVec 32 := 15#32
  let v326 : BitVec 32 := Scalar.addi v2 c15_i32
  let v325 : BitVec 32 := v324
  ![v326.toNat, v325.toNat]
def k1_off33 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c15_i32_139 : BitVec 32 := 15#32
  let v335 : BitVec 32 := Scalar.addi v2 c15_i32_139
  let c0_i32_142 : BitVec 32 := 0#32
  ![v335.toNat, 0]
def k1_mult17 (v349 : BitVec 32) : BitVec 32 :=
  v349

def k1_off34 (i : grid1.Coords) (v349 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32 : BitVec 32 := 16#32
  let v351 : BitVec 32 := Scalar.addi v2 c16_i32
  let v350 : BitVec 32 := v349
  ![v351.toNat, v350.toNat]
def k1_off35 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_149 : BitVec 32 := 16#32
  let v360 : BitVec 32 := Scalar.addi v2 c16_i32_149
  let c0_i32_152 : BitVec 32 := 0#32
  ![v360.toNat, 0]
def k1_mult18 (v370 : BitVec 32) : BitVec 32 :=
  v370

def k1_off36 (i : grid1.Coords) (v370 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c17_i32 : BitVec 32 := 17#32
  let v372 : BitVec 32 := Scalar.addi v2 c17_i32
  let v371 : BitVec 32 := v370
  ![v372.toNat, v371.toNat]
def k1_off37 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c17_i32_158 : BitVec 32 := 17#32
  let v381 : BitVec 32 := Scalar.addi v2 c17_i32_158
  let c0_i32_161 : BitVec 32 := 0#32
  ![v381.toNat, 0]
def k1_mult19 (v391 : BitVec 32) : BitVec 32 :=
  v391

def k1_off38 (i : grid1.Coords) (v391 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c18_i32 : BitVec 32 := 18#32
  let v393 : BitVec 32 := Scalar.addi v2 c18_i32
  let v392 : BitVec 32 := v391
  ![v393.toNat, v392.toNat]
def k1_off39 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c18_i32_167 : BitVec 32 := 18#32
  let v402 : BitVec 32 := Scalar.addi v2 c18_i32_167
  let c0_i32_170 : BitVec 32 := 0#32
  ![v402.toNat, 0]
def k1_mult20 (v412 : BitVec 32) : BitVec 32 :=
  v412

def k1_off40 (i : grid1.Coords) (v412 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c19_i32 : BitVec 32 := 19#32
  let v414 : BitVec 32 := Scalar.addi v2 c19_i32
  let v413 : BitVec 32 := v412
  ![v414.toNat, v413.toNat]
def k1_off41 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c19_i32_176 : BitVec 32 := 19#32
  let v423 : BitVec 32 := Scalar.addi v2 c19_i32_176
  let c0_i32_179 : BitVec 32 := 0#32
  ![v423.toNat, 0]
def k1_mult21 (v433 : BitVec 32) : BitVec 32 :=
  v433

def k1_off42 (i : grid1.Coords) (v433 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c20_i32 : BitVec 32 := 20#32
  let v435 : BitVec 32 := Scalar.addi v2 c20_i32
  let v434 : BitVec 32 := v433
  ![v435.toNat, v434.toNat]
def k1_off43 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c20_i32_185 : BitVec 32 := 20#32
  let v444 : BitVec 32 := Scalar.addi v2 c20_i32_185
  let c0_i32_188 : BitVec 32 := 0#32
  ![v444.toNat, 0]
def k1_mult22 (v454 : BitVec 32) : BitVec 32 :=
  v454

def k1_off44 (i : grid1.Coords) (v454 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c21_i32 : BitVec 32 := 21#32
  let v456 : BitVec 32 := Scalar.addi v2 c21_i32
  let v455 : BitVec 32 := v454
  ![v456.toNat, v455.toNat]
def k1_off45 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c21_i32_194 : BitVec 32 := 21#32
  let v465 : BitVec 32 := Scalar.addi v2 c21_i32_194
  let c0_i32_197 : BitVec 32 := 0#32
  ![v465.toNat, 0]
def k1_mult23 (v475 : BitVec 32) : BitVec 32 :=
  v475

def k1_off46 (i : grid1.Coords) (v475 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c22_i32 : BitVec 32 := 22#32
  let v477 : BitVec 32 := Scalar.addi v2 c22_i32
  let v476 : BitVec 32 := v475
  ![v477.toNat, v476.toNat]
def k1_off47 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c22_i32_203 : BitVec 32 := 22#32
  let v486 : BitVec 32 := Scalar.addi v2 c22_i32_203
  let c0_i32_206 : BitVec 32 := 0#32
  ![v486.toNat, 0]
def k1_mult24 (v496 : BitVec 32) : BitVec 32 :=
  v496

def k1_off48 (i : grid1.Coords) (v496 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c23_i32 : BitVec 32 := 23#32
  let v498 : BitVec 32 := Scalar.addi v2 c23_i32
  let v497 : BitVec 32 := v496
  ![v498.toNat, v497.toNat]
def k1_off49 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c23_i32_212 : BitVec 32 := 23#32
  let v507 : BitVec 32 := Scalar.addi v2 c23_i32_212
  let c0_i32_215 : BitVec 32 := 0#32
  ![v507.toNat, 0]
def k1_mult25 (v517 : BitVec 32) : BitVec 32 :=
  v517

def k1_off50 (i : grid1.Coords) (v517 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32 : BitVec 32 := 24#32
  let v519 : BitVec 32 := Scalar.addi v2 c24_i32
  let v518 : BitVec 32 := v517
  ![v519.toNat, v518.toNat]
def k1_off51 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_221 : BitVec 32 := 24#32
  let v528 : BitVec 32 := Scalar.addi v2 c24_i32_221
  let c0_i32_224 : BitVec 32 := 0#32
  ![v528.toNat, 0]
def k1_mult26 (v538 : BitVec 32) : BitVec 32 :=
  v538

def k1_off52 (i : grid1.Coords) (v538 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c25_i32 : BitVec 32 := 25#32
  let v540 : BitVec 32 := Scalar.addi v2 c25_i32
  let v539 : BitVec 32 := v538
  ![v540.toNat, v539.toNat]
def k1_off53 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c25_i32_230 : BitVec 32 := 25#32
  let v549 : BitVec 32 := Scalar.addi v2 c25_i32_230
  let c0_i32_233 : BitVec 32 := 0#32
  ![v549.toNat, 0]
def k1_mult27 (v559 : BitVec 32) : BitVec 32 :=
  v559

def k1_off54 (i : grid1.Coords) (v559 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c26_i32 : BitVec 32 := 26#32
  let v561 : BitVec 32 := Scalar.addi v2 c26_i32
  let v560 : BitVec 32 := v559
  ![v561.toNat, v560.toNat]
def k1_off55 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c26_i32_239 : BitVec 32 := 26#32
  let v570 : BitVec 32 := Scalar.addi v2 c26_i32_239
  let c0_i32_242 : BitVec 32 := 0#32
  ![v570.toNat, 0]
def k1_mult28 (v580 : BitVec 32) : BitVec 32 :=
  v580

def k1_off56 (i : grid1.Coords) (v580 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c27_i32 : BitVec 32 := 27#32
  let v582 : BitVec 32 := Scalar.addi v2 c27_i32
  let v581 : BitVec 32 := v580
  ![v582.toNat, v581.toNat]
def k1_off57 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c27_i32_248 : BitVec 32 := 27#32
  let v591 : BitVec 32 := Scalar.addi v2 c27_i32_248
  let c0_i32_251 : BitVec 32 := 0#32
  ![v591.toNat, 0]
def k1_mult29 (v601 : BitVec 32) : BitVec 32 :=
  v601

def k1_off58 (i : grid1.Coords) (v601 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c28_i32 : BitVec 32 := 28#32
  let v603 : BitVec 32 := Scalar.addi v2 c28_i32
  let v602 : BitVec 32 := v601
  ![v603.toNat, v602.toNat]
def k1_off59 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c28_i32_257 : BitVec 32 := 28#32
  let v612 : BitVec 32 := Scalar.addi v2 c28_i32_257
  let c0_i32_260 : BitVec 32 := 0#32
  ![v612.toNat, 0]
def k1_mult30 (v622 : BitVec 32) : BitVec 32 :=
  v622

def k1_off60 (i : grid1.Coords) (v622 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c29_i32 : BitVec 32 := 29#32
  let v624 : BitVec 32 := Scalar.addi v2 c29_i32
  let v623 : BitVec 32 := v622
  ![v624.toNat, v623.toNat]
def k1_off61 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c29_i32_266 : BitVec 32 := 29#32
  let v633 : BitVec 32 := Scalar.addi v2 c29_i32_266
  let c0_i32_269 : BitVec 32 := 0#32
  ![v633.toNat, 0]
def k1_mult31 (v643 : BitVec 32) : BitVec 32 :=
  v643

def k1_off62 (i : grid1.Coords) (v643 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c30_i32 : BitVec 32 := 30#32
  let v645 : BitVec 32 := Scalar.addi v2 c30_i32
  let v644 : BitVec 32 := v643
  ![v645.toNat, v644.toNat]
def k1_off63 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c30_i32_275 : BitVec 32 := 30#32
  let v654 : BitVec 32 := Scalar.addi v2 c30_i32_275
  let c0_i32_278 : BitVec 32 := 0#32
  ![v654.toNat, 0]
def k1_mult32 (v664 : BitVec 32) : BitVec 32 :=
  v664

def k1_off64 (i : grid1.Coords) (v664 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c31_i32 : BitVec 32 := 31#32
  let v666 : BitVec 32 := Scalar.addi v2 c31_i32
  let v665 : BitVec 32 := v664
  ![v666.toNat, v665.toNat]

def k1_chk32 (i : grid1.Coords) (v664 : BitVec 32) : Prop :=
  (16 ∣ (k1_mult32 v664).toNat) ∧
  (∀ a, (k1_off64 i v664) a + S1x16.size a ≤ S1024x100000.size a)
theorem k1_mult32_dvd : ∀ (i : grid1.Coords) (v664 : BitVec 32) (k1_hw32 : k1_chk32 i v664), 16 ∣ (k1_mult32 v664).toNat := fun i v664 k1_hw32 => k1_hw32.1
theorem k1_off64_inb : ∀ (i : grid1.Coords) (v664 : BitVec 32) (k1_hw32 : k1_chk32 i v664), ∀ a, (k1_off64 i v664) a + S1x16.size a ≤ S1024x100000.size a := fun i v664 k1_hw32 => k1_hw32.2

def k1_off65 (i : grid1.Coords) (c31_i32_284 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v675 : BitVec 32 := Scalar.addi v2 c31_i32_284
  let c0_i32_287 : BitVec 32 := 0#32
  ![v675.toNat, 0]
def k1_off66 (i : grid1.Coords) (v9 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v11 : BitVec 32 := Scalar.addi v2 c0_i32
  let v10 : BitVec 32 := v9
  ![v11.toNat, v10.toNat]

def k1_chk1 (i : grid1.Coords) (v9 : BitVec 32) : Prop :=
  (16 ∣ (k1_mult1 v9).toNat) ∧
  (∀ a, (k1_off2 i v9) a + S1x16.size a ≤ S1024x100000.size a) ∧
  (∀ a, (k1_off66 i v9) a + S1x16.size a ≤ S1024x100000.size a)
theorem k1_mult1_dvd : ∀ (i : grid1.Coords) (v9 : BitVec 32) (k1_hw1 : k1_chk1 i v9), 16 ∣ (k1_mult1 v9).toNat := fun i v9 k1_hw1 => k1_hw1.1
theorem k1_off2_inb : ∀ (i : grid1.Coords) (v9 : BitVec 32) (k1_hw1 : k1_chk1 i v9), ∀ a, (k1_off2 i v9) a + S1x16.size a ≤ S1024x100000.size a := fun i v9 k1_hw1 => k1_hw1.2.1
theorem k1_off66_inb : ∀ (i : grid1.Coords) (v9 : BitVec 32) (k1_hw1 : k1_chk1 i v9), ∀ a, (k1_off66 i v9) a + S1x16.size a ≤ S1024x100000.size a := fun i v9 k1_hw1 => k1_hw1.2.2

def k1_off67 (i : grid1.Coords) (v30 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32 : BitVec 32 := 1#32
  let v32 : BitVec 32 := Scalar.addi v2 c1_i32
  let v31 : BitVec 32 := v30
  ![v32.toNat, v31.toNat]

def k1_chk2 (i : grid1.Coords) (v30 : BitVec 32) : Prop :=
  (16 ∣ (k1_mult2 v30).toNat) ∧
  (∀ a, (k1_off4 i v30) a + S1x16.size a ≤ S1024x100000.size a) ∧
  (∀ a, (k1_off67 i v30) a + S1x16.size a ≤ S1024x100000.size a)
theorem k1_mult2_dvd : ∀ (i : grid1.Coords) (v30 : BitVec 32) (k1_hw2 : k1_chk2 i v30), 16 ∣ (k1_mult2 v30).toNat := fun i v30 k1_hw2 => k1_hw2.1
theorem k1_off4_inb : ∀ (i : grid1.Coords) (v30 : BitVec 32) (k1_hw2 : k1_chk2 i v30), ∀ a, (k1_off4 i v30) a + S1x16.size a ≤ S1024x100000.size a := fun i v30 k1_hw2 => k1_hw2.2.1
theorem k1_off67_inb : ∀ (i : grid1.Coords) (v30 : BitVec 32) (k1_hw2 : k1_chk2 i v30), ∀ a, (k1_off67 i v30) a + S1x16.size a ≤ S1024x100000.size a := fun i v30 k1_hw2 => k1_hw2.2.2

def k1_off68 (i : grid1.Coords) (v51 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_18 : BitVec 32 := 2#32
  let v53 : BitVec 32 := Scalar.addi v2 c2_i32_18
  let v52 : BitVec 32 := v51
  ![v53.toNat, v52.toNat]

def k1_chk3 (i : grid1.Coords) (v51 : BitVec 32) : Prop :=
  (16 ∣ (k1_mult3 v51).toNat) ∧
  (∀ a, (k1_off6 i v51) a + S1x16.size a ≤ S1024x100000.size a) ∧
  (∀ a, (k1_off68 i v51) a + S1x16.size a ≤ S1024x100000.size a)
theorem k1_mult3_dvd : ∀ (i : grid1.Coords) (v51 : BitVec 32) (k1_hw3 : k1_chk3 i v51), 16 ∣ (k1_mult3 v51).toNat := fun i v51 k1_hw3 => k1_hw3.1
theorem k1_off6_inb : ∀ (i : grid1.Coords) (v51 : BitVec 32) (k1_hw3 : k1_chk3 i v51), ∀ a, (k1_off6 i v51) a + S1x16.size a ≤ S1024x100000.size a := fun i v51 k1_hw3 => k1_hw3.2.1
theorem k1_off68_inb : ∀ (i : grid1.Coords) (v51 : BitVec 32) (k1_hw3 : k1_chk3 i v51), ∀ a, (k1_off68 i v51) a + S1x16.size a ≤ S1024x100000.size a := fun i v51 k1_hw3 => k1_hw3.2.2

def k1_off69 (i : grid1.Coords) (v72 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32 : BitVec 32 := 3#32
  let v74 : BitVec 32 := Scalar.addi v2 c3_i32
  let v73 : BitVec 32 := v72
  ![v74.toNat, v73.toNat]

def k1_chk4 (i : grid1.Coords) (v72 : BitVec 32) : Prop :=
  (16 ∣ (k1_mult4 v72).toNat) ∧
  (∀ a, (k1_off8 i v72) a + S1x16.size a ≤ S1024x100000.size a) ∧
  (∀ a, (k1_off69 i v72) a + S1x16.size a ≤ S1024x100000.size a)
theorem k1_mult4_dvd : ∀ (i : grid1.Coords) (v72 : BitVec 32) (k1_hw4 : k1_chk4 i v72), 16 ∣ (k1_mult4 v72).toNat := fun i v72 k1_hw4 => k1_hw4.1
theorem k1_off8_inb : ∀ (i : grid1.Coords) (v72 : BitVec 32) (k1_hw4 : k1_chk4 i v72), ∀ a, (k1_off8 i v72) a + S1x16.size a ≤ S1024x100000.size a := fun i v72 k1_hw4 => k1_hw4.2.1
theorem k1_off69_inb : ∀ (i : grid1.Coords) (v72 : BitVec 32) (k1_hw4 : k1_chk4 i v72), ∀ a, (k1_off69 i v72) a + S1x16.size a ≤ S1024x100000.size a := fun i v72 k1_hw4 => k1_hw4.2.2

def k1_off70 (i : grid1.Coords) (v93 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c4_i32 : BitVec 32 := 4#32
  let v95 : BitVec 32 := Scalar.addi v2 c4_i32
  let v94 : BitVec 32 := v93
  ![v95.toNat, v94.toNat]

def k1_chk5 (i : grid1.Coords) (v93 : BitVec 32) : Prop :=
  (16 ∣ (k1_mult5 v93).toNat) ∧
  (∀ a, (k1_off10 i v93) a + S1x16.size a ≤ S1024x100000.size a) ∧
  (∀ a, (k1_off70 i v93) a + S1x16.size a ≤ S1024x100000.size a)
theorem k1_mult5_dvd : ∀ (i : grid1.Coords) (v93 : BitVec 32) (k1_hw5 : k1_chk5 i v93), 16 ∣ (k1_mult5 v93).toNat := fun i v93 k1_hw5 => k1_hw5.1
theorem k1_off10_inb : ∀ (i : grid1.Coords) (v93 : BitVec 32) (k1_hw5 : k1_chk5 i v93), ∀ a, (k1_off10 i v93) a + S1x16.size a ≤ S1024x100000.size a := fun i v93 k1_hw5 => k1_hw5.2.1
theorem k1_off70_inb : ∀ (i : grid1.Coords) (v93 : BitVec 32) (k1_hw5 : k1_chk5 i v93), ∀ a, (k1_off70 i v93) a + S1x16.size a ≤ S1024x100000.size a := fun i v93 k1_hw5 => k1_hw5.2.2

def k1_off71 (i : grid1.Coords) (v114 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c5_i32 : BitVec 32 := 5#32
  let v116 : BitVec 32 := Scalar.addi v2 c5_i32
  let v115 : BitVec 32 := v114
  ![v116.toNat, v115.toNat]

def k1_chk6 (i : grid1.Coords) (v114 : BitVec 32) : Prop :=
  (16 ∣ (k1_mult6 v114).toNat) ∧
  (∀ a, (k1_off12 i v114) a + S1x16.size a ≤ S1024x100000.size a) ∧
  (∀ a, (k1_off71 i v114) a + S1x16.size a ≤ S1024x100000.size a)
theorem k1_mult6_dvd : ∀ (i : grid1.Coords) (v114 : BitVec 32) (k1_hw6 : k1_chk6 i v114), 16 ∣ (k1_mult6 v114).toNat := fun i v114 k1_hw6 => k1_hw6.1
theorem k1_off12_inb : ∀ (i : grid1.Coords) (v114 : BitVec 32) (k1_hw6 : k1_chk6 i v114), ∀ a, (k1_off12 i v114) a + S1x16.size a ≤ S1024x100000.size a := fun i v114 k1_hw6 => k1_hw6.2.1
theorem k1_off71_inb : ∀ (i : grid1.Coords) (v114 : BitVec 32) (k1_hw6 : k1_chk6 i v114), ∀ a, (k1_off71 i v114) a + S1x16.size a ≤ S1024x100000.size a := fun i v114 k1_hw6 => k1_hw6.2.2

def k1_off72 (i : grid1.Coords) (v135 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c6_i32 : BitVec 32 := 6#32
  let v137 : BitVec 32 := Scalar.addi v2 c6_i32
  let v136 : BitVec 32 := v135
  ![v137.toNat, v136.toNat]

def k1_chk7 (i : grid1.Coords) (v135 : BitVec 32) : Prop :=
  (16 ∣ (k1_mult7 v135).toNat) ∧
  (∀ a, (k1_off14 i v135) a + S1x16.size a ≤ S1024x100000.size a) ∧
  (∀ a, (k1_off72 i v135) a + S1x16.size a ≤ S1024x100000.size a)
theorem k1_mult7_dvd : ∀ (i : grid1.Coords) (v135 : BitVec 32) (k1_hw7 : k1_chk7 i v135), 16 ∣ (k1_mult7 v135).toNat := fun i v135 k1_hw7 => k1_hw7.1
theorem k1_off14_inb : ∀ (i : grid1.Coords) (v135 : BitVec 32) (k1_hw7 : k1_chk7 i v135), ∀ a, (k1_off14 i v135) a + S1x16.size a ≤ S1024x100000.size a := fun i v135 k1_hw7 => k1_hw7.2.1
theorem k1_off72_inb : ∀ (i : grid1.Coords) (v135 : BitVec 32) (k1_hw7 : k1_chk7 i v135), ∀ a, (k1_off72 i v135) a + S1x16.size a ≤ S1024x100000.size a := fun i v135 k1_hw7 => k1_hw7.2.2

def k1_off73 (i : grid1.Coords) (v156 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c7_i32 : BitVec 32 := 7#32
  let v158 : BitVec 32 := Scalar.addi v2 c7_i32
  let v157 : BitVec 32 := v156
  ![v158.toNat, v157.toNat]

def k1_chk8 (i : grid1.Coords) (v156 : BitVec 32) : Prop :=
  (16 ∣ (k1_mult8 v156).toNat) ∧
  (∀ a, (k1_off16 i v156) a + S1x16.size a ≤ S1024x100000.size a) ∧
  (∀ a, (k1_off73 i v156) a + S1x16.size a ≤ S1024x100000.size a)
theorem k1_mult8_dvd : ∀ (i : grid1.Coords) (v156 : BitVec 32) (k1_hw8 : k1_chk8 i v156), 16 ∣ (k1_mult8 v156).toNat := fun i v156 k1_hw8 => k1_hw8.1
theorem k1_off16_inb : ∀ (i : grid1.Coords) (v156 : BitVec 32) (k1_hw8 : k1_chk8 i v156), ∀ a, (k1_off16 i v156) a + S1x16.size a ≤ S1024x100000.size a := fun i v156 k1_hw8 => k1_hw8.2.1
theorem k1_off73_inb : ∀ (i : grid1.Coords) (v156 : BitVec 32) (k1_hw8 : k1_chk8 i v156), ∀ a, (k1_off73 i v156) a + S1x16.size a ≤ S1024x100000.size a := fun i v156 k1_hw8 => k1_hw8.2.2

def k1_off74 (i : grid1.Coords) (v177 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32 : BitVec 32 := 8#32
  let v179 : BitVec 32 := Scalar.addi v2 c8_i32
  let v178 : BitVec 32 := v177
  ![v179.toNat, v178.toNat]

def k1_chk9 (i : grid1.Coords) (v177 : BitVec 32) : Prop :=
  (16 ∣ (k1_mult9 v177).toNat) ∧
  (∀ a, (k1_off18 i v177) a + S1x16.size a ≤ S1024x100000.size a) ∧
  (∀ a, (k1_off74 i v177) a + S1x16.size a ≤ S1024x100000.size a)
theorem k1_mult9_dvd : ∀ (i : grid1.Coords) (v177 : BitVec 32) (k1_hw9 : k1_chk9 i v177), 16 ∣ (k1_mult9 v177).toNat := fun i v177 k1_hw9 => k1_hw9.1
theorem k1_off18_inb : ∀ (i : grid1.Coords) (v177 : BitVec 32) (k1_hw9 : k1_chk9 i v177), ∀ a, (k1_off18 i v177) a + S1x16.size a ≤ S1024x100000.size a := fun i v177 k1_hw9 => k1_hw9.2.1
theorem k1_off74_inb : ∀ (i : grid1.Coords) (v177 : BitVec 32) (k1_hw9 : k1_chk9 i v177), ∀ a, (k1_off74 i v177) a + S1x16.size a ≤ S1024x100000.size a := fun i v177 k1_hw9 => k1_hw9.2.2

def k1_off75 (i : grid1.Coords) (v198 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c9_i32 : BitVec 32 := 9#32
  let v200 : BitVec 32 := Scalar.addi v2 c9_i32
  let v199 : BitVec 32 := v198
  ![v200.toNat, v199.toNat]

def k1_chk10 (i : grid1.Coords) (v198 : BitVec 32) : Prop :=
  (16 ∣ (k1_mult10 v198).toNat) ∧
  (∀ a, (k1_off20 i v198) a + S1x16.size a ≤ S1024x100000.size a) ∧
  (∀ a, (k1_off75 i v198) a + S1x16.size a ≤ S1024x100000.size a)
theorem k1_mult10_dvd : ∀ (i : grid1.Coords) (v198 : BitVec 32) (k1_hw10 : k1_chk10 i v198), 16 ∣ (k1_mult10 v198).toNat := fun i v198 k1_hw10 => k1_hw10.1
theorem k1_off20_inb : ∀ (i : grid1.Coords) (v198 : BitVec 32) (k1_hw10 : k1_chk10 i v198), ∀ a, (k1_off20 i v198) a + S1x16.size a ≤ S1024x100000.size a := fun i v198 k1_hw10 => k1_hw10.2.1
theorem k1_off75_inb : ∀ (i : grid1.Coords) (v198 : BitVec 32) (k1_hw10 : k1_chk10 i v198), ∀ a, (k1_off75 i v198) a + S1x16.size a ≤ S1024x100000.size a := fun i v198 k1_hw10 => k1_hw10.2.2

def k1_off76 (i : grid1.Coords) (v219 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c10_i32 : BitVec 32 := 10#32
  let v221 : BitVec 32 := Scalar.addi v2 c10_i32
  let v220 : BitVec 32 := v219
  ![v221.toNat, v220.toNat]

def k1_chk11 (i : grid1.Coords) (v219 : BitVec 32) : Prop :=
  (16 ∣ (k1_mult11 v219).toNat) ∧
  (∀ a, (k1_off22 i v219) a + S1x16.size a ≤ S1024x100000.size a) ∧
  (∀ a, (k1_off76 i v219) a + S1x16.size a ≤ S1024x100000.size a)
theorem k1_mult11_dvd : ∀ (i : grid1.Coords) (v219 : BitVec 32) (k1_hw11 : k1_chk11 i v219), 16 ∣ (k1_mult11 v219).toNat := fun i v219 k1_hw11 => k1_hw11.1
theorem k1_off22_inb : ∀ (i : grid1.Coords) (v219 : BitVec 32) (k1_hw11 : k1_chk11 i v219), ∀ a, (k1_off22 i v219) a + S1x16.size a ≤ S1024x100000.size a := fun i v219 k1_hw11 => k1_hw11.2.1
theorem k1_off76_inb : ∀ (i : grid1.Coords) (v219 : BitVec 32) (k1_hw11 : k1_chk11 i v219), ∀ a, (k1_off76 i v219) a + S1x16.size a ≤ S1024x100000.size a := fun i v219 k1_hw11 => k1_hw11.2.2

def k1_off77 (i : grid1.Coords) (v240 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c11_i32 : BitVec 32 := 11#32
  let v242 : BitVec 32 := Scalar.addi v2 c11_i32
  let v241 : BitVec 32 := v240
  ![v242.toNat, v241.toNat]

def k1_chk12 (i : grid1.Coords) (v240 : BitVec 32) : Prop :=
  (16 ∣ (k1_mult12 v240).toNat) ∧
  (∀ a, (k1_off24 i v240) a + S1x16.size a ≤ S1024x100000.size a) ∧
  (∀ a, (k1_off77 i v240) a + S1x16.size a ≤ S1024x100000.size a)
theorem k1_mult12_dvd : ∀ (i : grid1.Coords) (v240 : BitVec 32) (k1_hw12 : k1_chk12 i v240), 16 ∣ (k1_mult12 v240).toNat := fun i v240 k1_hw12 => k1_hw12.1
theorem k1_off24_inb : ∀ (i : grid1.Coords) (v240 : BitVec 32) (k1_hw12 : k1_chk12 i v240), ∀ a, (k1_off24 i v240) a + S1x16.size a ≤ S1024x100000.size a := fun i v240 k1_hw12 => k1_hw12.2.1
theorem k1_off77_inb : ∀ (i : grid1.Coords) (v240 : BitVec 32) (k1_hw12 : k1_chk12 i v240), ∀ a, (k1_off77 i v240) a + S1x16.size a ≤ S1024x100000.size a := fun i v240 k1_hw12 => k1_hw12.2.2

def k1_off78 (i : grid1.Coords) (v261 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c12_i32 : BitVec 32 := 12#32
  let v263 : BitVec 32 := Scalar.addi v2 c12_i32
  let v262 : BitVec 32 := v261
  ![v263.toNat, v262.toNat]

def k1_chk13 (i : grid1.Coords) (v261 : BitVec 32) : Prop :=
  (16 ∣ (k1_mult13 v261).toNat) ∧
  (∀ a, (k1_off26 i v261) a + S1x16.size a ≤ S1024x100000.size a) ∧
  (∀ a, (k1_off78 i v261) a + S1x16.size a ≤ S1024x100000.size a)
theorem k1_mult13_dvd : ∀ (i : grid1.Coords) (v261 : BitVec 32) (k1_hw13 : k1_chk13 i v261), 16 ∣ (k1_mult13 v261).toNat := fun i v261 k1_hw13 => k1_hw13.1
theorem k1_off26_inb : ∀ (i : grid1.Coords) (v261 : BitVec 32) (k1_hw13 : k1_chk13 i v261), ∀ a, (k1_off26 i v261) a + S1x16.size a ≤ S1024x100000.size a := fun i v261 k1_hw13 => k1_hw13.2.1
theorem k1_off78_inb : ∀ (i : grid1.Coords) (v261 : BitVec 32) (k1_hw13 : k1_chk13 i v261), ∀ a, (k1_off78 i v261) a + S1x16.size a ≤ S1024x100000.size a := fun i v261 k1_hw13 => k1_hw13.2.2

def k1_off79 (i : grid1.Coords) (v282 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c13_i32 : BitVec 32 := 13#32
  let v284 : BitVec 32 := Scalar.addi v2 c13_i32
  let v283 : BitVec 32 := v282
  ![v284.toNat, v283.toNat]

def k1_chk14 (i : grid1.Coords) (v282 : BitVec 32) : Prop :=
  (16 ∣ (k1_mult14 v282).toNat) ∧
  (∀ a, (k1_off28 i v282) a + S1x16.size a ≤ S1024x100000.size a) ∧
  (∀ a, (k1_off79 i v282) a + S1x16.size a ≤ S1024x100000.size a)
theorem k1_mult14_dvd : ∀ (i : grid1.Coords) (v282 : BitVec 32) (k1_hw14 : k1_chk14 i v282), 16 ∣ (k1_mult14 v282).toNat := fun i v282 k1_hw14 => k1_hw14.1
theorem k1_off28_inb : ∀ (i : grid1.Coords) (v282 : BitVec 32) (k1_hw14 : k1_chk14 i v282), ∀ a, (k1_off28 i v282) a + S1x16.size a ≤ S1024x100000.size a := fun i v282 k1_hw14 => k1_hw14.2.1
theorem k1_off79_inb : ∀ (i : grid1.Coords) (v282 : BitVec 32) (k1_hw14 : k1_chk14 i v282), ∀ a, (k1_off79 i v282) a + S1x16.size a ≤ S1024x100000.size a := fun i v282 k1_hw14 => k1_hw14.2.2

def k1_off80 (i : grid1.Coords) (v303 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c14_i32 : BitVec 32 := 14#32
  let v305 : BitVec 32 := Scalar.addi v2 c14_i32
  let v304 : BitVec 32 := v303
  ![v305.toNat, v304.toNat]

def k1_chk15 (i : grid1.Coords) (v303 : BitVec 32) : Prop :=
  (16 ∣ (k1_mult15 v303).toNat) ∧
  (∀ a, (k1_off30 i v303) a + S1x16.size a ≤ S1024x100000.size a) ∧
  (∀ a, (k1_off80 i v303) a + S1x16.size a ≤ S1024x100000.size a)
theorem k1_mult15_dvd : ∀ (i : grid1.Coords) (v303 : BitVec 32) (k1_hw15 : k1_chk15 i v303), 16 ∣ (k1_mult15 v303).toNat := fun i v303 k1_hw15 => k1_hw15.1
theorem k1_off30_inb : ∀ (i : grid1.Coords) (v303 : BitVec 32) (k1_hw15 : k1_chk15 i v303), ∀ a, (k1_off30 i v303) a + S1x16.size a ≤ S1024x100000.size a := fun i v303 k1_hw15 => k1_hw15.2.1
theorem k1_off80_inb : ∀ (i : grid1.Coords) (v303 : BitVec 32) (k1_hw15 : k1_chk15 i v303), ∀ a, (k1_off80 i v303) a + S1x16.size a ≤ S1024x100000.size a := fun i v303 k1_hw15 => k1_hw15.2.2

def k1_off81 (i : grid1.Coords) (v324 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c15_i32 : BitVec 32 := 15#32
  let v326 : BitVec 32 := Scalar.addi v2 c15_i32
  let v325 : BitVec 32 := v324
  ![v326.toNat, v325.toNat]

def k1_chk16 (i : grid1.Coords) (v324 : BitVec 32) : Prop :=
  (16 ∣ (k1_mult16 v324).toNat) ∧
  (∀ a, (k1_off32 i v324) a + S1x16.size a ≤ S1024x100000.size a) ∧
  (∀ a, (k1_off81 i v324) a + S1x16.size a ≤ S1024x100000.size a)
theorem k1_mult16_dvd : ∀ (i : grid1.Coords) (v324 : BitVec 32) (k1_hw16 : k1_chk16 i v324), 16 ∣ (k1_mult16 v324).toNat := fun i v324 k1_hw16 => k1_hw16.1
theorem k1_off32_inb : ∀ (i : grid1.Coords) (v324 : BitVec 32) (k1_hw16 : k1_chk16 i v324), ∀ a, (k1_off32 i v324) a + S1x16.size a ≤ S1024x100000.size a := fun i v324 k1_hw16 => k1_hw16.2.1
theorem k1_off81_inb : ∀ (i : grid1.Coords) (v324 : BitVec 32) (k1_hw16 : k1_chk16 i v324), ∀ a, (k1_off81 i v324) a + S1x16.size a ≤ S1024x100000.size a := fun i v324 k1_hw16 => k1_hw16.2.2

def k1_off82 (i : grid1.Coords) (v349 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32 : BitVec 32 := 16#32
  let v351 : BitVec 32 := Scalar.addi v2 c16_i32
  let v350 : BitVec 32 := v349
  ![v351.toNat, v350.toNat]

def k1_chk17 (i : grid1.Coords) (v349 : BitVec 32) : Prop :=
  (16 ∣ (k1_mult17 v349).toNat) ∧
  (∀ a, (k1_off34 i v349) a + S1x16.size a ≤ S1024x100000.size a) ∧
  (∀ a, (k1_off82 i v349) a + S1x16.size a ≤ S1024x100000.size a)
theorem k1_mult17_dvd : ∀ (i : grid1.Coords) (v349 : BitVec 32) (k1_hw17 : k1_chk17 i v349), 16 ∣ (k1_mult17 v349).toNat := fun i v349 k1_hw17 => k1_hw17.1
theorem k1_off34_inb : ∀ (i : grid1.Coords) (v349 : BitVec 32) (k1_hw17 : k1_chk17 i v349), ∀ a, (k1_off34 i v349) a + S1x16.size a ≤ S1024x100000.size a := fun i v349 k1_hw17 => k1_hw17.2.1
theorem k1_off82_inb : ∀ (i : grid1.Coords) (v349 : BitVec 32) (k1_hw17 : k1_chk17 i v349), ∀ a, (k1_off82 i v349) a + S1x16.size a ≤ S1024x100000.size a := fun i v349 k1_hw17 => k1_hw17.2.2

def k1_off83 (i : grid1.Coords) (v370 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c17_i32 : BitVec 32 := 17#32
  let v372 : BitVec 32 := Scalar.addi v2 c17_i32
  let v371 : BitVec 32 := v370
  ![v372.toNat, v371.toNat]

def k1_chk18 (i : grid1.Coords) (v370 : BitVec 32) : Prop :=
  (16 ∣ (k1_mult18 v370).toNat) ∧
  (∀ a, (k1_off36 i v370) a + S1x16.size a ≤ S1024x100000.size a) ∧
  (∀ a, (k1_off83 i v370) a + S1x16.size a ≤ S1024x100000.size a)
theorem k1_mult18_dvd : ∀ (i : grid1.Coords) (v370 : BitVec 32) (k1_hw18 : k1_chk18 i v370), 16 ∣ (k1_mult18 v370).toNat := fun i v370 k1_hw18 => k1_hw18.1
theorem k1_off36_inb : ∀ (i : grid1.Coords) (v370 : BitVec 32) (k1_hw18 : k1_chk18 i v370), ∀ a, (k1_off36 i v370) a + S1x16.size a ≤ S1024x100000.size a := fun i v370 k1_hw18 => k1_hw18.2.1
theorem k1_off83_inb : ∀ (i : grid1.Coords) (v370 : BitVec 32) (k1_hw18 : k1_chk18 i v370), ∀ a, (k1_off83 i v370) a + S1x16.size a ≤ S1024x100000.size a := fun i v370 k1_hw18 => k1_hw18.2.2

def k1_off84 (i : grid1.Coords) (v391 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c18_i32 : BitVec 32 := 18#32
  let v393 : BitVec 32 := Scalar.addi v2 c18_i32
  let v392 : BitVec 32 := v391
  ![v393.toNat, v392.toNat]

def k1_chk19 (i : grid1.Coords) (v391 : BitVec 32) : Prop :=
  (16 ∣ (k1_mult19 v391).toNat) ∧
  (∀ a, (k1_off38 i v391) a + S1x16.size a ≤ S1024x100000.size a) ∧
  (∀ a, (k1_off84 i v391) a + S1x16.size a ≤ S1024x100000.size a)
theorem k1_mult19_dvd : ∀ (i : grid1.Coords) (v391 : BitVec 32) (k1_hw19 : k1_chk19 i v391), 16 ∣ (k1_mult19 v391).toNat := fun i v391 k1_hw19 => k1_hw19.1
theorem k1_off38_inb : ∀ (i : grid1.Coords) (v391 : BitVec 32) (k1_hw19 : k1_chk19 i v391), ∀ a, (k1_off38 i v391) a + S1x16.size a ≤ S1024x100000.size a := fun i v391 k1_hw19 => k1_hw19.2.1
theorem k1_off84_inb : ∀ (i : grid1.Coords) (v391 : BitVec 32) (k1_hw19 : k1_chk19 i v391), ∀ a, (k1_off84 i v391) a + S1x16.size a ≤ S1024x100000.size a := fun i v391 k1_hw19 => k1_hw19.2.2

def k1_off85 (i : grid1.Coords) (v412 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c19_i32 : BitVec 32 := 19#32
  let v414 : BitVec 32 := Scalar.addi v2 c19_i32
  let v413 : BitVec 32 := v412
  ![v414.toNat, v413.toNat]

def k1_chk20 (i : grid1.Coords) (v412 : BitVec 32) : Prop :=
  (16 ∣ (k1_mult20 v412).toNat) ∧
  (∀ a, (k1_off40 i v412) a + S1x16.size a ≤ S1024x100000.size a) ∧
  (∀ a, (k1_off85 i v412) a + S1x16.size a ≤ S1024x100000.size a)
theorem k1_mult20_dvd : ∀ (i : grid1.Coords) (v412 : BitVec 32) (k1_hw20 : k1_chk20 i v412), 16 ∣ (k1_mult20 v412).toNat := fun i v412 k1_hw20 => k1_hw20.1
theorem k1_off40_inb : ∀ (i : grid1.Coords) (v412 : BitVec 32) (k1_hw20 : k1_chk20 i v412), ∀ a, (k1_off40 i v412) a + S1x16.size a ≤ S1024x100000.size a := fun i v412 k1_hw20 => k1_hw20.2.1
theorem k1_off85_inb : ∀ (i : grid1.Coords) (v412 : BitVec 32) (k1_hw20 : k1_chk20 i v412), ∀ a, (k1_off85 i v412) a + S1x16.size a ≤ S1024x100000.size a := fun i v412 k1_hw20 => k1_hw20.2.2

def k1_off86 (i : grid1.Coords) (v433 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c20_i32 : BitVec 32 := 20#32
  let v435 : BitVec 32 := Scalar.addi v2 c20_i32
  let v434 : BitVec 32 := v433
  ![v435.toNat, v434.toNat]

def k1_chk21 (i : grid1.Coords) (v433 : BitVec 32) : Prop :=
  (16 ∣ (k1_mult21 v433).toNat) ∧
  (∀ a, (k1_off42 i v433) a + S1x16.size a ≤ S1024x100000.size a) ∧
  (∀ a, (k1_off86 i v433) a + S1x16.size a ≤ S1024x100000.size a)
theorem k1_mult21_dvd : ∀ (i : grid1.Coords) (v433 : BitVec 32) (k1_hw21 : k1_chk21 i v433), 16 ∣ (k1_mult21 v433).toNat := fun i v433 k1_hw21 => k1_hw21.1
theorem k1_off42_inb : ∀ (i : grid1.Coords) (v433 : BitVec 32) (k1_hw21 : k1_chk21 i v433), ∀ a, (k1_off42 i v433) a + S1x16.size a ≤ S1024x100000.size a := fun i v433 k1_hw21 => k1_hw21.2.1
theorem k1_off86_inb : ∀ (i : grid1.Coords) (v433 : BitVec 32) (k1_hw21 : k1_chk21 i v433), ∀ a, (k1_off86 i v433) a + S1x16.size a ≤ S1024x100000.size a := fun i v433 k1_hw21 => k1_hw21.2.2

def k1_off87 (i : grid1.Coords) (v454 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c21_i32 : BitVec 32 := 21#32
  let v456 : BitVec 32 := Scalar.addi v2 c21_i32
  let v455 : BitVec 32 := v454
  ![v456.toNat, v455.toNat]

def k1_chk22 (i : grid1.Coords) (v454 : BitVec 32) : Prop :=
  (16 ∣ (k1_mult22 v454).toNat) ∧
  (∀ a, (k1_off44 i v454) a + S1x16.size a ≤ S1024x100000.size a) ∧
  (∀ a, (k1_off87 i v454) a + S1x16.size a ≤ S1024x100000.size a)
theorem k1_mult22_dvd : ∀ (i : grid1.Coords) (v454 : BitVec 32) (k1_hw22 : k1_chk22 i v454), 16 ∣ (k1_mult22 v454).toNat := fun i v454 k1_hw22 => k1_hw22.1
theorem k1_off44_inb : ∀ (i : grid1.Coords) (v454 : BitVec 32) (k1_hw22 : k1_chk22 i v454), ∀ a, (k1_off44 i v454) a + S1x16.size a ≤ S1024x100000.size a := fun i v454 k1_hw22 => k1_hw22.2.1
theorem k1_off87_inb : ∀ (i : grid1.Coords) (v454 : BitVec 32) (k1_hw22 : k1_chk22 i v454), ∀ a, (k1_off87 i v454) a + S1x16.size a ≤ S1024x100000.size a := fun i v454 k1_hw22 => k1_hw22.2.2

def k1_off88 (i : grid1.Coords) (v475 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c22_i32 : BitVec 32 := 22#32
  let v477 : BitVec 32 := Scalar.addi v2 c22_i32
  let v476 : BitVec 32 := v475
  ![v477.toNat, v476.toNat]

def k1_chk23 (i : grid1.Coords) (v475 : BitVec 32) : Prop :=
  (16 ∣ (k1_mult23 v475).toNat) ∧
  (∀ a, (k1_off46 i v475) a + S1x16.size a ≤ S1024x100000.size a) ∧
  (∀ a, (k1_off88 i v475) a + S1x16.size a ≤ S1024x100000.size a)
theorem k1_mult23_dvd : ∀ (i : grid1.Coords) (v475 : BitVec 32) (k1_hw23 : k1_chk23 i v475), 16 ∣ (k1_mult23 v475).toNat := fun i v475 k1_hw23 => k1_hw23.1
theorem k1_off46_inb : ∀ (i : grid1.Coords) (v475 : BitVec 32) (k1_hw23 : k1_chk23 i v475), ∀ a, (k1_off46 i v475) a + S1x16.size a ≤ S1024x100000.size a := fun i v475 k1_hw23 => k1_hw23.2.1
theorem k1_off88_inb : ∀ (i : grid1.Coords) (v475 : BitVec 32) (k1_hw23 : k1_chk23 i v475), ∀ a, (k1_off88 i v475) a + S1x16.size a ≤ S1024x100000.size a := fun i v475 k1_hw23 => k1_hw23.2.2

def k1_off89 (i : grid1.Coords) (v496 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c23_i32 : BitVec 32 := 23#32
  let v498 : BitVec 32 := Scalar.addi v2 c23_i32
  let v497 : BitVec 32 := v496
  ![v498.toNat, v497.toNat]

def k1_chk24 (i : grid1.Coords) (v496 : BitVec 32) : Prop :=
  (16 ∣ (k1_mult24 v496).toNat) ∧
  (∀ a, (k1_off48 i v496) a + S1x16.size a ≤ S1024x100000.size a) ∧
  (∀ a, (k1_off89 i v496) a + S1x16.size a ≤ S1024x100000.size a)
theorem k1_mult24_dvd : ∀ (i : grid1.Coords) (v496 : BitVec 32) (k1_hw24 : k1_chk24 i v496), 16 ∣ (k1_mult24 v496).toNat := fun i v496 k1_hw24 => k1_hw24.1
theorem k1_off48_inb : ∀ (i : grid1.Coords) (v496 : BitVec 32) (k1_hw24 : k1_chk24 i v496), ∀ a, (k1_off48 i v496) a + S1x16.size a ≤ S1024x100000.size a := fun i v496 k1_hw24 => k1_hw24.2.1
theorem k1_off89_inb : ∀ (i : grid1.Coords) (v496 : BitVec 32) (k1_hw24 : k1_chk24 i v496), ∀ a, (k1_off89 i v496) a + S1x16.size a ≤ S1024x100000.size a := fun i v496 k1_hw24 => k1_hw24.2.2

def k1_off90 (i : grid1.Coords) (v517 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32 : BitVec 32 := 24#32
  let v519 : BitVec 32 := Scalar.addi v2 c24_i32
  let v518 : BitVec 32 := v517
  ![v519.toNat, v518.toNat]

def k1_chk25 (i : grid1.Coords) (v517 : BitVec 32) : Prop :=
  (16 ∣ (k1_mult25 v517).toNat) ∧
  (∀ a, (k1_off50 i v517) a + S1x16.size a ≤ S1024x100000.size a) ∧
  (∀ a, (k1_off90 i v517) a + S1x16.size a ≤ S1024x100000.size a)
theorem k1_mult25_dvd : ∀ (i : grid1.Coords) (v517 : BitVec 32) (k1_hw25 : k1_chk25 i v517), 16 ∣ (k1_mult25 v517).toNat := fun i v517 k1_hw25 => k1_hw25.1
theorem k1_off50_inb : ∀ (i : grid1.Coords) (v517 : BitVec 32) (k1_hw25 : k1_chk25 i v517), ∀ a, (k1_off50 i v517) a + S1x16.size a ≤ S1024x100000.size a := fun i v517 k1_hw25 => k1_hw25.2.1
theorem k1_off90_inb : ∀ (i : grid1.Coords) (v517 : BitVec 32) (k1_hw25 : k1_chk25 i v517), ∀ a, (k1_off90 i v517) a + S1x16.size a ≤ S1024x100000.size a := fun i v517 k1_hw25 => k1_hw25.2.2

def k1_off91 (i : grid1.Coords) (v538 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c25_i32 : BitVec 32 := 25#32
  let v540 : BitVec 32 := Scalar.addi v2 c25_i32
  let v539 : BitVec 32 := v538
  ![v540.toNat, v539.toNat]

def k1_chk26 (i : grid1.Coords) (v538 : BitVec 32) : Prop :=
  (16 ∣ (k1_mult26 v538).toNat) ∧
  (∀ a, (k1_off52 i v538) a + S1x16.size a ≤ S1024x100000.size a) ∧
  (∀ a, (k1_off91 i v538) a + S1x16.size a ≤ S1024x100000.size a)
theorem k1_mult26_dvd : ∀ (i : grid1.Coords) (v538 : BitVec 32) (k1_hw26 : k1_chk26 i v538), 16 ∣ (k1_mult26 v538).toNat := fun i v538 k1_hw26 => k1_hw26.1
theorem k1_off52_inb : ∀ (i : grid1.Coords) (v538 : BitVec 32) (k1_hw26 : k1_chk26 i v538), ∀ a, (k1_off52 i v538) a + S1x16.size a ≤ S1024x100000.size a := fun i v538 k1_hw26 => k1_hw26.2.1
theorem k1_off91_inb : ∀ (i : grid1.Coords) (v538 : BitVec 32) (k1_hw26 : k1_chk26 i v538), ∀ a, (k1_off91 i v538) a + S1x16.size a ≤ S1024x100000.size a := fun i v538 k1_hw26 => k1_hw26.2.2

def k1_off92 (i : grid1.Coords) (v559 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c26_i32 : BitVec 32 := 26#32
  let v561 : BitVec 32 := Scalar.addi v2 c26_i32
  let v560 : BitVec 32 := v559
  ![v561.toNat, v560.toNat]

def k1_chk27 (i : grid1.Coords) (v559 : BitVec 32) : Prop :=
  (16 ∣ (k1_mult27 v559).toNat) ∧
  (∀ a, (k1_off54 i v559) a + S1x16.size a ≤ S1024x100000.size a) ∧
  (∀ a, (k1_off92 i v559) a + S1x16.size a ≤ S1024x100000.size a)
theorem k1_mult27_dvd : ∀ (i : grid1.Coords) (v559 : BitVec 32) (k1_hw27 : k1_chk27 i v559), 16 ∣ (k1_mult27 v559).toNat := fun i v559 k1_hw27 => k1_hw27.1
theorem k1_off54_inb : ∀ (i : grid1.Coords) (v559 : BitVec 32) (k1_hw27 : k1_chk27 i v559), ∀ a, (k1_off54 i v559) a + S1x16.size a ≤ S1024x100000.size a := fun i v559 k1_hw27 => k1_hw27.2.1
theorem k1_off92_inb : ∀ (i : grid1.Coords) (v559 : BitVec 32) (k1_hw27 : k1_chk27 i v559), ∀ a, (k1_off92 i v559) a + S1x16.size a ≤ S1024x100000.size a := fun i v559 k1_hw27 => k1_hw27.2.2

def k1_off93 (i : grid1.Coords) (v580 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c27_i32 : BitVec 32 := 27#32
  let v582 : BitVec 32 := Scalar.addi v2 c27_i32
  let v581 : BitVec 32 := v580
  ![v582.toNat, v581.toNat]

def k1_chk28 (i : grid1.Coords) (v580 : BitVec 32) : Prop :=
  (16 ∣ (k1_mult28 v580).toNat) ∧
  (∀ a, (k1_off56 i v580) a + S1x16.size a ≤ S1024x100000.size a) ∧
  (∀ a, (k1_off93 i v580) a + S1x16.size a ≤ S1024x100000.size a)
theorem k1_mult28_dvd : ∀ (i : grid1.Coords) (v580 : BitVec 32) (k1_hw28 : k1_chk28 i v580), 16 ∣ (k1_mult28 v580).toNat := fun i v580 k1_hw28 => k1_hw28.1
theorem k1_off56_inb : ∀ (i : grid1.Coords) (v580 : BitVec 32) (k1_hw28 : k1_chk28 i v580), ∀ a, (k1_off56 i v580) a + S1x16.size a ≤ S1024x100000.size a := fun i v580 k1_hw28 => k1_hw28.2.1
theorem k1_off93_inb : ∀ (i : grid1.Coords) (v580 : BitVec 32) (k1_hw28 : k1_chk28 i v580), ∀ a, (k1_off93 i v580) a + S1x16.size a ≤ S1024x100000.size a := fun i v580 k1_hw28 => k1_hw28.2.2

def k1_off94 (i : grid1.Coords) (v601 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c28_i32 : BitVec 32 := 28#32
  let v603 : BitVec 32 := Scalar.addi v2 c28_i32
  let v602 : BitVec 32 := v601
  ![v603.toNat, v602.toNat]

def k1_chk29 (i : grid1.Coords) (v601 : BitVec 32) : Prop :=
  (16 ∣ (k1_mult29 v601).toNat) ∧
  (∀ a, (k1_off58 i v601) a + S1x16.size a ≤ S1024x100000.size a) ∧
  (∀ a, (k1_off94 i v601) a + S1x16.size a ≤ S1024x100000.size a)
theorem k1_mult29_dvd : ∀ (i : grid1.Coords) (v601 : BitVec 32) (k1_hw29 : k1_chk29 i v601), 16 ∣ (k1_mult29 v601).toNat := fun i v601 k1_hw29 => k1_hw29.1
theorem k1_off58_inb : ∀ (i : grid1.Coords) (v601 : BitVec 32) (k1_hw29 : k1_chk29 i v601), ∀ a, (k1_off58 i v601) a + S1x16.size a ≤ S1024x100000.size a := fun i v601 k1_hw29 => k1_hw29.2.1
theorem k1_off94_inb : ∀ (i : grid1.Coords) (v601 : BitVec 32) (k1_hw29 : k1_chk29 i v601), ∀ a, (k1_off94 i v601) a + S1x16.size a ≤ S1024x100000.size a := fun i v601 k1_hw29 => k1_hw29.2.2

def k1_off95 (i : grid1.Coords) (v622 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c29_i32 : BitVec 32 := 29#32
  let v624 : BitVec 32 := Scalar.addi v2 c29_i32
  let v623 : BitVec 32 := v622
  ![v624.toNat, v623.toNat]

def k1_chk30 (i : grid1.Coords) (v622 : BitVec 32) : Prop :=
  (16 ∣ (k1_mult30 v622).toNat) ∧
  (∀ a, (k1_off60 i v622) a + S1x16.size a ≤ S1024x100000.size a) ∧
  (∀ a, (k1_off95 i v622) a + S1x16.size a ≤ S1024x100000.size a)
theorem k1_mult30_dvd : ∀ (i : grid1.Coords) (v622 : BitVec 32) (k1_hw30 : k1_chk30 i v622), 16 ∣ (k1_mult30 v622).toNat := fun i v622 k1_hw30 => k1_hw30.1
theorem k1_off60_inb : ∀ (i : grid1.Coords) (v622 : BitVec 32) (k1_hw30 : k1_chk30 i v622), ∀ a, (k1_off60 i v622) a + S1x16.size a ≤ S1024x100000.size a := fun i v622 k1_hw30 => k1_hw30.2.1
theorem k1_off95_inb : ∀ (i : grid1.Coords) (v622 : BitVec 32) (k1_hw30 : k1_chk30 i v622), ∀ a, (k1_off95 i v622) a + S1x16.size a ≤ S1024x100000.size a := fun i v622 k1_hw30 => k1_hw30.2.2

def k1_off96 (i : grid1.Coords) (v643 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c30_i32 : BitVec 32 := 30#32
  let v645 : BitVec 32 := Scalar.addi v2 c30_i32
  let v644 : BitVec 32 := v643
  ![v645.toNat, v644.toNat]

def k1_chk31 (i : grid1.Coords) (v643 : BitVec 32) : Prop :=
  (16 ∣ (k1_mult31 v643).toNat) ∧
  (∀ a, (k1_off62 i v643) a + S1x16.size a ≤ S1024x100000.size a) ∧
  (∀ a, (k1_off96 i v643) a + S1x16.size a ≤ S1024x100000.size a)
theorem k1_mult31_dvd : ∀ (i : grid1.Coords) (v643 : BitVec 32) (k1_hw31 : k1_chk31 i v643), 16 ∣ (k1_mult31 v643).toNat := fun i v643 k1_hw31 => k1_hw31.1
theorem k1_off62_inb : ∀ (i : grid1.Coords) (v643 : BitVec 32) (k1_hw31 : k1_chk31 i v643), ∀ a, (k1_off62 i v643) a + S1x16.size a ≤ S1024x100000.size a := fun i v643 k1_hw31 => k1_hw31.2.1
theorem k1_off96_inb : ∀ (i : grid1.Coords) (v643 : BitVec 32) (k1_hw31 : k1_chk31 i v643), ∀ a, (k1_off96 i v643) a + S1x16.size a ≤ S1024x100000.size a := fun i v643 k1_hw31 => k1_hw31.2.2

def k1_off97 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_938_r1 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "s" => some ((1 / 999980 : ℝ) : EReal)
  | "s_log_s" => some (((1 / 999980) * (Real.log (1 / 999980)) : ℝ) : EReal)
  | "s_sub_conf" => some ((-899981 / 999980 : ℝ) : EReal)
  | _ => none
-- ==== ReferenceIdeal.lean ====
abbrev S1024x100000 : Shape := ⟨2, ![1024, 100000]⟩
abbrev S1024 : Shape := ⟨1, ![1024]⟩
abbrev S_ : Shape := ⟨0, ![]⟩
abbrev S100000 : Shape := ⟨1, ![100000]⟩
abbrev S1 : Shape := ⟨1, ![1]⟩
abbrev S1x100000 : Shape := ⟨2, ![1, 100000]⟩
abbrev S1x1x1x100000 : Shape := ⟨4, ![1, 1, 1, 100000]⟩
abbrev S1024x1x1x100000 : Shape := ⟨4, ![1024, 1, 1, 100000]⟩
abbrev S1024x1 : Shape := ⟨2, ![1024, 1]⟩
abbrev S1024x2 : Shape := ⟨2, ![1024, 2]⟩

abbrev nBuf : Space → Nat
  | .hbm => 56
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S100000, .f32⟩
  | .hbm, ⟨10, _⟩ => ⟨S_, .i32⟩
  | .hbm, ⟨11, _⟩ => ⟨S1, .i32⟩
  | .hbm, ⟨12, _⟩ => ⟨S_, .f32⟩
  | .hbm, ⟨13, _⟩ => ⟨S100000, .f32⟩
  | .hbm, ⟨14, _⟩ => ⟨S1x100000, .f32⟩
  | .hbm, ⟨15, _⟩ => ⟨S1x1x1x100000, .f32⟩
  | .hbm, ⟨16, _⟩ => ⟨S1024x1x1x100000, .f32⟩
  | .hbm, ⟨17, _⟩ => ⟨S1024x100000, .f32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S1024x1, .i32⟩
  | .hbm, ⟨34, _⟩ => ⟨S1024x1, .i32⟩
  | .hbm, ⟨35, _⟩ => ⟨S1024x2, .i32⟩
  | .hbm, ⟨36, _⟩ => ⟨S1024, .f32⟩
  | .hbm, ⟨37, _⟩ => ⟨S1024x100000, .f32⟩
  | .hbm, ⟨38, _⟩ => ⟨S_, .f32⟩
  | .hbm, ⟨39, _⟩ => ⟨S1024x100000, .f32⟩
  | .hbm, ⟨40, _⟩ => ⟨S1024x100000, .i1⟩
  | .hbm, ⟨41, _⟩ => ⟨S_, .f32⟩
  | .hbm, ⟨42, _⟩ => ⟨S1024x100000, .f32⟩
  | .hbm, ⟨43, _⟩ => ⟨S1024x100000, .i1⟩
  | .hbm, ⟨44, _⟩ => ⟨S_, .f32⟩
  | .hbm, ⟨45, _⟩ => ⟨S_, .f32⟩
  | .hbm, ⟨46, _⟩ => ⟨S1024x100000, .f32⟩
  | .hbm, ⟨47, _⟩ => ⟨S1024x100000, .f32⟩
  | .hbm, ⟨48, _⟩ => ⟨S1024x100000, .f32⟩
  | .hbm, ⟨49, _⟩ => ⟨S1024x100000, .f32⟩
  | .hbm, ⟨50, _⟩ => ⟨S1024x100000, .f32⟩
  | .hbm, ⟨51, _⟩ => ⟨S_, .f32⟩
  | .hbm, ⟨52, _⟩ => ⟨S1024x100000, .f32⟩
  | .hbm, ⟨53, _⟩ => ⟨S1024x100000, .f32⟩
  | .hbm, ⟨54, _⟩ => ⟨S_, .f32⟩
  | .hbm, ⟨55, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_cst_2 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev main_v12 : Ref sig .tc := ⟨.hbm, 21, rfl⟩
abbrev main_c_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_6 : Ref sig .tc := ⟨.hbm, 26, rfl⟩
abbrev main_v16 : Ref sig .tc := ⟨.hbm, 27, rfl⟩
abbrev main_v17 : Ref sig .tc := ⟨.hbm, 28, rfl⟩
abbrev main_c_7 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_call0_v0 : Ref sig .tc := ⟨.hbm, 45, rfl⟩
abbrev main_call0_v1 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_call1_v0 : Ref sig .tc := ⟨.hbm, 52, rfl⟩
abbrev main_v34 : Ref sig .tc := ⟨.hbm, 53, rfl⟩
abbrev main_cst_12 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Proof.Setup.lean ====
/-
  The set-up of the certificate: the program as the launch theorem reads it, the ghost state, the buffers the
  SparseCore call touches, and what its handshakes carry.

  Thirty-two tiles run the call, tile `(c, s)` with the number `wid = 2 * s + c`. Each reads `pred` and `gold` under a
  read share of its own, and owns row `wid` of the array of partial sums.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Batch
public import Idealize.ShloMosaic.Lib.Tactic
public import Idealize.ShloMosaic.Lib.ValueIdxCore

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1 eq_ix2)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the copies' counters -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP (F := F)).LandsIn (upEmb : UEmb _ (MT nD τ sig (HIx 1) (Elt F) ℕ UU ℕ)) := by unfold EP; infer_instance

local notation "𝕄" => MT nD τ sig (HIx 1) (Elt F) ℕ UU ℕ

/-! ## The buffers -/

variable (m : (ℓ : Loc nD τ sig) → Buf (Elt F) ℓ) (ρ : Dev nD → PrngReg)

abbrev pLoc (d : Dev nD) : Loc nD τ sig := (SparseCore.T d).loc main_arg0
abbrev gLoc (d : Dev nD) : Loc nD τ sig := (SparseCore.T d).loc main_arg1
abbrev oLoc (d : Dev nD) : Loc nD τ sig := (SparseCore.T d).loc main_v10

abbrev pV : Memref sig .scVector .hbm S1024x100000 .f32 := Memref.whole main_arg0_scv
abbrev gV : Memref sig .scVector .hbm S1024 .i32 := Memref.whole main_arg1_scv
abbrev oV : Memref sig .scVector .hbm S32x16 .f32 := Memref.whole main_v10_scv
abbrev bV : Memref sig .scVector .vmem S32 .i32 := Memref.whole cc1_scratch0
abbrev wV : Memref sig .scVector .vmem S32x128 .f32 := Memref.whole cc1_scratch1
abbrev zV : Memref sig .scVector .vmem S32x128 .f32 := Memref.whole cc1_scratch2
abbrev aV : Memref sig .scVector .vmem S16 .f32 := Memref.whole cc1_scratch3

/-! ## The tiles: their numbers, rows and shares -/

/-- The number of tile `(c, s)`. -/
def wid (c : Fin 2) (s : Fin 16) : Fin 32 := ⟨2 * s.val + c.val, by omega⟩

theorem odiv : 32 ∣ S32x16.size 0 := ⟨1, rfl⟩
abbrev orow (w : Fin 32) : Rect S32x16 := Rect.part (s := S32x16) (a₀ := 0) odiv w
abbrev oRowSet (w : Fin 32) : Finset S32x16.Idx := ((oV).view.slice (orow w)).set

/-- Tile `w`'s read share. -/
abbrev tq (w : Fin 32) : PosShare TreeShare := Transfers.shareTokN fullShare w.val

/-! ## What the tiles leave -/

/-- One row's contribution: the accumulator after the row whose gold word is `g`, whose gathered window is `w6` and
    whose first window is `w7`. -/
def rowStep [FloatOps F] [Named F] (g : BitVec 32) (w6 w7 : FVec F S16 .f32) (acc : FVec F S16 .f32) : FVec F S16 .f32 :=
  have lane : IVec S16 32 := iota .scVector S16 32 [0] iota_S16_d0_w32_scVector
  have zero : FVec F S16 .f32 := broadcast S16 (Scalar.ofBits .f32 0x00000000#32)
  have mask : FVec F S16 .f32 := select (cmpi .eq lane (broadcast S16 0#32)) (broadcast S16 (Scalar.ofBits .f32 0x3F800000#32)) zero
  have s : FVec F S16 .f32 := broadcast S16 (Named.named κ "s" 0x3586386D#32)
  have pg : FVec F S16 .f32 := select (cmpi .eq lane (broadcast S16 (IntOp.andi g 15#32))) w6 zero
  have p0 : FVec F S16 .f32 := mulf w7 mask
  have gz : F .f32 := Scalar.select (Scalar.cmpi .eq g 0#32) (Scalar.ofBits .f32 0x3F800000#32) (Scalar.ofBits .f32 0x00000000#32)
  addf (addf (addf acc (mulf s p0)) (mulf (broadcast S16 (Named.named κ "s_sub_conf" 0xBF666656#32)) pg))
    (mulf (broadcast S16 gz) (subf (mulf (broadcast S16 (Named.named κ "s_log_s" 0xB767CA44#32)) mask) (mulf s p0)))

/-- The accumulator after the first `n` rows. -/
def accN [FloatOps F] [Named F] (g : ℕ → BitVec 32) (w6 w7 : ℕ → FVec F S16 .f32) : ℕ → FVec F S16 .f32
  | 0 => broadcast S16 (Scalar.ofBits .f32 0x00000000#32)
  | n + 1 => rowStep (g n) (w6 n) (w7 n) (accN g w6 w7 n)

/-- Row `r` of tile `w`, among the 1024 rows. -/
def rowOf (w : Fin 32) (r : ℕ) : Fin 1024 := ⟨(32 * w.val + r) % 1024, Nat.mod_lt _ (by norm_num)⟩

/-- The gold word of a row. -/
def goldAt (d : Dev nD) (i : Fin 1024) : BitVec 32 := m (gLoc d) (ix1 i)

/-- The column at which the window of gold word `g` starts: the multiple of sixteen at or below it. -/
def colOf (g : BitVec 32) : ℕ := (IntOp.andi g 4294967280#32).toNat

/-- The element of `pred` at row `i` and column `j` (a column past the end is not read). -/
def predAt (d : Dev nD) (i : Fin 1024) (j : ℕ) : F .f32 := m (pLoc d) (ix2 i ⟨j % 100000, Nat.mod_lt _ (by norm_num)⟩)

/-- The gathered window of a row of the tile, and the row's first window. -/
def win6 (d : Dev nD) (w : Fin 32) (r : ℕ) : FVec F S16 .f32 :=
  fun l => predAt m d (rowOf w r) (colOf (goldAt m d (rowOf w r)) + (l 0).val)
def win7 (d : Dev nD) (w : Fin 32) (r : ℕ) : FVec F S16 .f32 := fun l => predAt m d (rowOf w r) (l 0).val

/-- What tile `w` leaves in its row of partial sums. -/
def tileSum [FloatOps F] [Named F] (d : Dev nD) (w : Fin 32) : FVec F S16 .f32 :=
  accN (fun r => goldAt m d (rowOf w r)) (win6 m d w) (win7 m d w) 32

/-- The array of partial sums after the call. -/
def sumsArr [FloatOps F] [Named F] (d : Dev nD) : Buf (Elt F) (oLoc d) := fun i => tileSum m d (i 0) (ix1 (i 1))

/-! ## What the handshakes carry -/

abbrev pSh (d : Dev nD) (w : Fin 32) : sProp 𝕄 := pLoc d ↦{tq w} m (pLoc d)
abbrev gSh (d : Dev nD) (w : Fin 32) : sProp 𝕄 := gLoc d ↦{tq w} m (gLoc d)
abbrev oRow (d : Dev nD) (w : Fin 32) (f : Buf (Elt F) (oLoc d)) : sProp 𝕄 := oLoc d ↦[oRowSet w]{fullShare} f

/-- What tile `w` takes, the array of partial sums holding anything, and what it brings back. -/
abbrev goP (d : Dev nD) (w : Fin 32) : sProp 𝕄 := iprop(pSh m d w ∗ gSh m d w ∗ ∃ f, oRow d w f)
abbrev tdP [FloatOps F] [Named F] (d : Dev nD) (w : Fin 32) : sProp 𝕄 := iprop(pSh m d w ∗ gSh m d w ∗ oRow d w (sumsArr m d))

variable [FloatOps F] [Named F]

/-- The one call takes, for each SparseCore, what its sixteen tiles take, and brings back what they bring back. -/
def P : (K (F := F)).Pay (nD := nD) (Val := Elt F) (Name := ℕ) (U := UU) where
  st := fun q d c => match q with | 0 => bigSep Finset.univ fun s : Fin 16 => goP m d (wid c s)
  dn := fun q d c => match q with | 0 => bigSep Finset.univ fun s : Fin 16 => tdP m d (wid c s)
  go := fun q d c s => match q with | 0 => goP m d (wid c s)
  td := fun q d c s => match q with | 0 => tdP m d (wid c s)
  x := fun _ _ => iprop(emp)

instance P_storable : (P (F := F) m).IsStorable where
  st q d c := match q with
    | 0 => (inferInstance : BI.Storable (upEmb : UEmb _ 𝕄) (bigSep Finset.univ fun s : Fin 16 => goP m d (wid c s)))
  dn q d c := match q with
    | 0 => (inferInstance : BI.Storable (upEmb : UEmb _ 𝕄) (bigSep Finset.univ fun s : Fin 16 => tdP m d (wid c s)))
  go q d c s := match q with | 0 => (inferInstance : BI.Storable (upEmb : UEmb _ 𝕄) (goP m d (wid c s)))
  td q d c s := match q with | 0 => (inferInstance : BI.Storable (upEmb : UEmb _ 𝕄) (tdP m d (wid c s)))

/-- What the proof asks of the launch memory: every gold word is a column. -/
def PreOK : Prop := ∀ (d : Dev nD) (j : S1024.Idx), (m (gLoc d) j).toNat < 100000

end Cert.Proof.Sc

end
-- ==== Proof.Pre.lean ====
/-
  What the two preconditions say, read off the predicates: the gold columns lie in the table, and the predictions are finite.
-/
module

public import proofs.«01_k».proof.Defs
public import proofs.«01_k».proof.Proof.Setup
public import proofs.«01_k».proof.Proof.Gen.Pre_drawn
public import proofs.«01_k».proof.Proof.Gen.Pre_drawn_finite
public import Idealize.ShloMosaic.Lib.ReduceAll
public import Idealize.ShloMosaic.Lib.IdealHost

@[expose] public section

noncomputable section

namespace Cert.Proof.Sc

open Idealize.ShloMosaic Idealize.ShloMosaic.ValueIdx

attribute [local instance] Cert.Pre_drawn.Gen.facts Cert.Pre_drawn_finite.Gen.facts

instance : Subsingleton (Cert.Pre_drawn.S_).Idx := ⟨fun a b => funext fun k => k.elim0⟩

/-- A word that is at least 0 and below 100000, read signed, is below 100000. -/
theorem word_lt {x : BitVec 32} (h0 : IntOp.cmpi .sge x 0#32 = 1#1) (h1 : IntOp.cmpi .slt x 100000#32 = 1#1) : x.toNat < 100000 := by
  rw [IntOp.cmpi_sge] at h0
  rw [IntOp.cmpi_slt] at h1
  have e0 : (0#32).toInt = 0 := rfl
  have e1 : (100000#32).toInt = 100000 := rfl
  rw [e0] at h0
  rw [e1] at h1
  rw [BitVec.toInt_eq_toNat_cond] at h0 h1
  split at h0 <;> split at h1 <;> omega

/-- The range check of the gold columns, passed. -/
theorem drawn_lt {F : FTy → Type} [FloatOps F] (x : FVec F Cert.Pre_drawn.S1024x100000 .f32) (g : IVec Cert.Pre_drawn.S1024 32)
    (h : Cert.Pre_drawn.fn x g = fun _ => 1#1) (j : Cert.Pre_drawn.S1024.Idx) : (g j).toNat < 100000 := by
  have e := Host.reduce_andi_all _ _ _ _ _ (congrFun h ix0) j
  obtain ⟨h0, h1⟩ := IntOp.andi_eq_one.1 e
  exact word_lt h0 h1

/-- The range check of the second predicate is the first's. -/
theorem drawn_finite_lt {F : FTy → Type} [FloatOps F] (x : FVec F Cert.Pre_drawn.S1024x100000 .f32) (g : IVec Cert.Pre_drawn.S1024 32)
    (h : Cert.Pre_drawn_finite.fn x g = fun _ => 1#1) (j : Cert.Pre_drawn.S1024.Idx) : (g j).toNat < 100000 := by
  have e := Host.reduce_andi_all _ _ _ _ _ (IntOp.andi_eq_one.1 (congrFun h ix0)).1 j
  obtain ⟨h0, h1⟩ := IntOp.andi_eq_one.1 e
  exact word_lt h0 h1

/-- The f32 pattern of infinity. -/
theorem ofBits_inf : Ideal.ofBits .f32 0x7F800000#32 = ⊤ := by simp [Ideal.ofBits, Ideal.ieee]

/-- An extended real whose absolute value is below infinity is a real number. -/
theorem real_of_abs_lt {x : EReal} (h : max x (-x) < ⊤) : ∃ r : ℝ, x = (r : EReal) := by
  induction x using EReal.rec with
  | bot => simp at h
  | top => simp at h
  | coe r => exact ⟨r, rfl⟩

/-- The finiteness check of the predictions, passed. -/
theorem drawn_finite_real (x : FVec Ideal Cert.Pre_drawn.S1024x100000 .f32) (g : IVec Cert.Pre_drawn.S1024 32)
    (h : Cert.Pre_drawn_finite.fn x g = fun _ => 1#1) (i : Cert.Pre_drawn.S1024x100000.Idx) : ∃ r : ℝ, x i = (r : EReal) := by
  have e := Host.reduce_andi_all _ _ _ _ _ (IntOp.andi_eq_one.1 (congrFun h ix0)).2 i
  have e' : Ideal.cmp .olt (max (x i) (-x i)) (Ideal.ofBits .f32 0x7F800000#32) = 1#1 := e
  rw [ofBits_inf] at e'
  refine real_of_abs_lt ?_
  by_contra hn
  simp [Ideal.cmp, hn] at e'

end Cert.Proof.Sc

end
-- ==== Proof.DenseBody.lean ====
/-
  One point of the dense kernel, the sum of all of `pred`: at the first point the accumulator is cleared, and at every
  point the two blocks' sums are added to it.
-/
module

public import proofs.«01_k».proof.Proof.Setup
public import proofs.«01_k».proof.Proof.Gen.KernelIdeal.Skeleton
public import Idealize.ShloMosaic.Lib.Tactic
public import Idealize.ShloMosaic.Lib.Tactic.Stretches
public import Idealize.ShloMosaic.Lib.WholeRead
public import Idealize.ShloMosaic.Lib.Pipeline.Value

@[expose] public section

noncomputable section

namespace Cert.Proof.Sc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1 eq_ix2)

variable {F : FTy → Type}

local notation "𝕄" => MT nD τ sig (HIx 1) (Elt F) ℕ UU ℕ

variable [FloatOps F] [Named F]

/-- A buffer's contents on the TensorCore of device `c`, and the buffer held whole at them. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The bit the kernel branches on: the grid coordinate is zero. -/
abbrev atFirst (i : grid0.Coords) : BitVec 1 :=
  Scalar.cmpi .ne (Scalar.extui (Scalar.cmpi .eq (BitVec.ofNat 32 (i 0).val) 0#32) : BitVec 32) 0#32

theorem atFirst_iff (i : grid0.Coords) : atFirst i = 1#1 ↔ (i 0).val = 0 := by
  have : ∀ k : Fin 32, (Scalar.cmpi .ne (Scalar.extui (Scalar.cmpi .eq (BitVec.ofNat 32 k.val) 0#32) : BitVec 32) 0#32 = 1#1) ↔ k.val = 0 := by
    decide
  exact this (i 0)

theorem zeros2 : (![0, 0] : Fin 2 → ℕ) = fun _ => 0 := by decide

theorem ix_S1x1 (y : S1x1.Idx) : y = ix2 0 0 := by
  funext a
  match a with
  | 0 => exact Fin.ext (by have := (y 0).isLt; show (y 0).val = 0; change _ < 1 at this; omega)
  | 1 => exact Fin.ext (by have := (y 1).isLt; show (y 1).val = 0; change _ < 1 at this; omega)

/-- What is left in the accumulator, given what it held, and the two blocks. -/
theorem first_body (c : Dev nD) (i : grid0.Coords) (hi : atFirst i = 1#1)
    (M0 : Memref sig .tc .vmem S16x100000 .f32) (h0 : M0.IsWhole) (M1 : Memref sig .tc .vmem S16x100000 .f32) (h1 : M1.IsWhole)
    (M2 : Memref sig .tc .smem S1x1 .f32) (h2 : M2.IsWhole) (f0 : Bf (F := F) c M0) (f1 : Bf (F := F) c M1)
    (f2 : Bf (F := F) c M2) (E : Set ℕ) (Q : PUnit → sProp 𝕄) :
    iprop(pt c M0 f0 ∗ pt c M1 f1 ∗ pt c M2 f2
        ∗ (iprop(pt c M0 f0 ∗ pt c M1 f1 ∗ ∃ f : Bf (F := F) c M2, ⌜M2.view.read (Elt F) f
            = fun _ => k0_pay1 (Scalar.ofBits .f32 0x00000000#32) (M0.view.read (Elt F) f0) (M1.view.read (Elt F) f1)⌝ ∗ pt c M2 f) -∗ Q ⟨⟩))
      ⊢ wp frame (wpE (defs₀ (F := F)) Variants.none c none) E (cc0__dense_kernel i M0 h0 M1 h1 M2 h2) Q := by
  rw [cc0__dense_kernel_eq_skeleton]; unfold cc0__dense_kernel_skel
  iintro ⟨H0, H1, H2, Hk⟩
  sl_exec!
  sl_step
  iapply Hk
  isplitl [H0]; · iexact H0
  isplitl [H1]; · iexact H1
  iexists _; isplitr; swap; · iexact H2
  ipureintro
  sl_open_run
  funext y
  rw [View.read_writes_junk_apply_eq_canon]
  erw [View.canon_cons_unit_zero zeros2, View.readAt_eq_ld, View.readAt_eq_ld, View.ld_unit_zero zeros2, View.ld_unit_zero zeros2]

theorem later_body (c : Dev nD) (i : grid0.Coords) (hi : ¬ atFirst i = 1#1)
    (M0 : Memref sig .tc .vmem S16x100000 .f32) (h0 : M0.IsWhole) (M1 : Memref sig .tc .vmem S16x100000 .f32) (h1 : M1.IsWhole)
    (M2 : Memref sig .tc .smem S1x1 .f32) (h2 : M2.IsWhole) (f0 : Bf (F := F) c M0) (f1 : Bf (F := F) c M1)
    (f2 : Bf (F := F) c M2) (E : Set ℕ) (Q : PUnit → sProp 𝕄) :
    iprop(pt c M0 f0 ∗ pt c M1 f1 ∗ pt c M2 f2
        ∗ (iprop(pt c M0 f0 ∗ pt c M1 f1 ∗ ∃ f : Bf (F := F) c M2, ⌜M2.view.read (Elt F) f
            = fun _ => k0_pay1 (M2.view.read (Elt F) f2 (ix2 0 0)) (M0.view.read (Elt F) f0) (M1.view.read (Elt F) f1)⌝ ∗ pt c M2 f) -∗ Q ⟨⟩))
      ⊢ wp frame (wpE (defs₀ (F := F)) Variants.none c none) E (cc0__dense_kernel i M0 h0 M1 h1 M2 h2) Q := by
  rw [cc0__dense_kernel_eq_skeleton]; unfold cc0__dense_kernel_skel
  iintro ⟨H0, H1, H2, Hk⟩
  sl_exec!
  sl_step
  iapply Hk
  isplitl [H0]; · iexact H0
  isplitl [H1]; · iexact H1
  iexists _; isplitr; swap; · iexact H2
  ipureintro
  sl_open_run
  funext y
  rw [View.read_writes_junk_apply_eq_canon]
  erw [View.canon_cons_unit_zero zeros2, View.readAt_eq_ld, View.readAt_eq_ld, View.readAt_eq_ld, View.ld_unit_zero zeros2, View.ld_unit_zero zeros2, View.ld_unit_zero zeros2]
  rw [ix_S1x1 (Shape.Idx.first _)]

end Cert.Proof.Sc

end
-- ==== Proof.Dense.lean ====
/-
  The dense kernel as a region of @main: its proof data, its body obligation at every point, and the region, run by a
  TensorCore that still owes the gather call its start signals.
-/
module

public import proofs.«01_k».proof.Proof.DenseBody
public import proofs.«01_k».proof.Proof.Gen.KernelIdeal.Launch
public import proofs.«01_k».proof.Proof.Gen.KernelIdeal.Points
public import Idealize.ShloMosaic.Lib.Pipeline.Frame
public import Idealize.ShloMosaic.Lib.Pipeline.Value
public import Idealize.ShloMosaic.Lib.Pipeline.RegionArrays

@[expose] public section

noncomputable section

namespace Cert.Proof.Sc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open Idealize.ShloMosaic.ValueIdx (ix1 ix2 eq_ix1 eq_ix2)

variable {F : FTy → Type}

local notation "𝕄" => MT nD τ sig (HIx 1) (Elt F) ℕ UU ℕ

variable (m : (ℓ : Loc nD τ sig) → Buf (Elt F) ℓ)

variable [FloatOps F] [Named F]

theorem coords_val : ∀ t : Fin cfg0.N, (grid0.coords t 0).val = t.val :=
  (by decide +kernel : ∀ t : Fin grid0.N, (grid0.coords t 0).val = t.val)

/-- The array the dense sum is left in. -/
abbrev sLoc (d : Dev nD) : Loc nD τ sig := (SparseCore.T d).loc main_v9

/-- The two blocks of `pred` the point works on. -/
abbrev blkA (d : Dev nD) (t : Fin cfg0.N) : Vec F S16x100000 .f32 := ((cfg0.win 0).blk t).view.read (Elt F) (m (pLoc d))
abbrev blkB (d : Dev nD) (t : Fin cfg0.N) : Vec F S16x100000 .f32 := ((cfg0.win 1).blk t).view.read (Elt F) (m (pLoc d))

/-- The accumulator after point `n`. -/
def accAt (d : Dev nD) : (n : ℕ) → n < cfg0.N → F .f32
  | 0, h => k0_pay1 (Scalar.ofBits .f32 0x00000000#32) (blkA m d ⟨0, h⟩) (blkB m d ⟨0, h⟩)
  | n + 1, h => k0_pay1 (accAt d n (Nat.lt_of_succ_lt h)) (blkA m d ⟨n + 1, h⟩) (blkB m d ⟨n + 1, h⟩)

theorem accAt_zero (d : Dev nD) (t : Fin cfg0.N) (ht : t.val = 0) :
    accAt m d t.val t.isLt = k0_pay1 (Scalar.ofBits .f32 0x00000000#32) (blkA m d t) (blkB m d t) := by
  obtain ⟨n, h⟩ := t; subst ht; rfl

theorem accAt_pos (d : Dev nD) (t : Fin cfg0.N) (ht : t.val ≠ 0) :
    accAt m d t.val t.isLt = k0_pay1 (accAt m d (t.val - 1) (Nat.lt_of_le_of_lt (Nat.sub_le _ _) t.isLt)) (blkA m d t) (blkB m d t) := by
  obtain ⟨n, h⟩ := t
  cases n with
  | zero => exact absurd rfl ht
  | succ n => rfl

variable (f9 : (d : Dev nD) → Buf (Elt F) (sLoc d))

/-- The region's proof data: `pred` read under two read shares, the accumulator after each point, and the TensorCore's
    debt of start signals, untouched. -/
def dat (d : Dev nD) : Dat τ (Elt F) (HIx 1) ℕ UU ℕ cfg0 d where
  A w := match w with
    | ⟨0, _⟩ => m (pLoc d)
    | ⟨1, _⟩ => m (pLoc d)
    | ⟨2, _⟩ => f9 d
  after w t := match w with
    | ⟨0, _⟩ => blkA m d t
    | ⟨1, _⟩ => blkB m d t
    | ⟨2, _⟩ => fun _ => accAt m d t.val t.isLt
  Φ _ := BI.emp
  q w := match w with
    | ⟨0, _⟩ => Transfers.shareTokN fullShare 0
    | ⟨1, _⟩ => Transfers.shareTokN fullShare 1
    | ⟨2, _⟩ => fullShare
  owed _ := (K (F := F)).Otc d 0
  recorded _ := {p | (K (F := F)).lev (T d, p.1) p.2 ≤ 0}

theorem before_A (d : Dev nD) (t : Fin cfg0.N) (x) : (dat m f9 d).before 0 t x = blkA m d t := by
  rw [(dat m f9 d).before_fetched 0 t (fetch0_0 t)]; rfl
theorem before_B (d : Dev nD) (t : Fin cfg0.N) (x) : (dat m f9 d).before 1 t x = blkB m d t := by
  rw [(dat m f9 d).before_fetched 1 t (fetch0_1 t)]; rfl
theorem before_acc (d : Dev nD) (t : Fin cfg0.N) (ht : t.val ≠ 0) (x) :
    (dat m f9 d).before 2 t x = fun _ => accAt m d (t.val - 1) (Nat.lt_of_le_of_lt (Nat.sub_le _ _) t.isLt) := by
  rw [(dat m f9 d).before_out_kept 2 rfl t ht
    (by
      rw [← Bool.not_eq_true]
      intro h
      have := (flush0_2 ⟨t.val - 1, _⟩).mp h
      have hN : cfg0.N = 32 := N_0
      have := t.isLt
      simp only at *
      omega) (fun _ => rfl) (fun _ _ => rfl)]
  rfl

theorem set_of_whole {sp : Space} {S : Shape} {e : EltTy} {M : Memref sig .tc sp S e} (h : M.IsWhole) : M.view.set = Finset.univ := by
  obtain ⟨b, rfl, rfl, rfl, h⟩ := h
  obtain rfl := eq_of_heq h
  exact View.set_whole b

attribute [local irreducible] Idealize.SL.Sem.wp

theorem body_obligation (d : Dev nD) : BodyObligation (dat m f9 d) (defs₀ (F := F)) Variants.none (none : HIx 1) Set.univ := fun t => by
  rw [bigSep_W0, bigSep_W0]
  simp only [before_A, before_B]
  unfold owns
  rw [set_of_whole (stage_whole0 0 (cfg0.slots t 0)), set_of_whole (stage_whole0 1 (cfg0.slots t 1)), set_of_whole (stage_whole0 2 (cfg0.slots t 2))]
  rw [show (dat m f9 d).Φ t.castSucc = BI.emp from rfl, show (dat m f9 d).Φ t.succ = BI.emp from rfl,
    show (dat m f9 d).owesAt none t.succ = (dat m f9 d).owesAt none t.castSucc from rfl]
  have hcoord : (grid0.coords t 0).val = t.val := coords_val t
  iintro ⟨-, Howes, ⟨%d0, %g0, %hg0, H0⟩, ⟨%d1, %g1, %hg1, H1⟩, ⟨%d2, %g2, %hg2, H2⟩⟩
  by_cases ht : t.val = 0
  · iapply (first_body d (grid0.coords t) ((atFirst_iff _).mpr (hcoord.trans ht)) _ (hstage0_0 ((cfg0.slots t 0).cast nbuf0_0)) _ (hstage0_1 ((cfg0.slots t 1).cast nbuf0_1))
      _ (hstage0_2 ((cfg0.slots t 2).cast nbuf0_2)) g0 g1 g2 Set.univ _)
    isplitl [H0]; · iexact H0
    isplitl [H1]; · iexact H1
    isplitl [H2]; · iexact H2
    iintro ⟨H0, H1, ⟨%g, %hg, H2⟩⟩
    isplitr; · iempintro
    isplitl [Howes]; · iexact Howes
    isplitl [H0]; · iexists g0; isplitr; · ipureintro; exact hg0
                    iexact H0
    isplitl [H1]; · iexists g1; isplitr; · ipureintro; exact hg1
                    iexact H1
    iexists g; isplitr; swap; · iexact H2
    ipureintro
    exact hg.trans (funext fun _ => (congr (congrArg (k0_pay1 _) hg0) hg1).trans (accAt_zero m d t ht).symm)
  · rw [before_acc m f9 d t ht] at hg2
    iapply (later_body d (grid0.coords t) (fun h => ht (hcoord.symm.trans ((atFirst_iff _).mp h))) _ (hstage0_0 ((cfg0.slots t 0).cast nbuf0_0)) _ (hstage0_1 ((cfg0.slots t 1).cast nbuf0_1))
      _ (hstage0_2 ((cfg0.slots t 2).cast nbuf0_2)) g0 g1 g2 Set.univ _)
    isplitl [H0]; · iexact H0
    isplitl [H1]; · iexact H1
    isplitl [H2]; · iexact H2
    iintro ⟨H0, H1, ⟨%g, %hg, H2⟩⟩
    isplitr; · iempintro
    isplitl [Howes]; · iexact Howes
    isplitl [H0]; · iexists g0; isplitr; · ipureintro; exact hg0
                    iexact H0
    isplitl [H1]; · iexists g1; isplitr; · ipureintro; exact hg1
                    iexact H1
    iexists g; isplitr; swap; · iexact H2
    ipureintro
    exact hg.trans (funext fun _ => (congr (congr (congrArg k0_pay1 (congrFun hg2 _)) hg0) hg1).trans (accAt_pos m d t ht).symm)

/-! ## The region -/

theorem Otc_none (d : Dev nD) (g : GSem nD τ sig) : (K (F := F)).Otc d 0 g (none : HIx 1) = 0 := by
  by_contra h
  have := SparseCore.Cfg.lev_of_Otc_pos (K := K (F := F)) (d := d) (n := 0) (g := g) (ι := none) (Nat.pos_of_ne_zero h)
  rw [SparseCore.Cfg.lev_none] at this
  omega

abbrev adm : (p : Fin 1) → (pcfgs (F := F) p).Adm := fun p => (cfgs p).toPCfg_adm

/-- The proof data of the program's one pipeline. -/
def pdats : (p : Fin 1) → (c : Dev nD) → Dat τ (Elt F) (HIx 1) ℕ UU ℕ (Pipeline.pin (pcfgs (F := F)) adm p) c
  | ⟨0, _⟩ => fun c => dat m f9 c

/-- What the region takes and gives back: two read shares of `pred`, the sum's array, the debt. -/
abbrev regPts (d : Dev nD) (f : Buf (Elt F) (sLoc d)) : sProp 𝕄 :=
  iprop((pLoc d ↦{Transfers.shareTokN fullShare 0} m (pLoc d)) ∗ (pLoc d ↦{Transfers.shareTokN fullShare 1} m (pLoc d))
    ∗ (sLoc d ↦{fullShare} f)
    ∗ ∃ W, ⌜(K (F := F)).WBelow (T d) W 0⌝ ∗ owes (T d) ((K (F := F)).Otc d 0) W)

/-- The sum's array after the region. -/
def sumArr (d : Dev nD) : Buf (Elt F) (sLoc d) := fun _ => accAt m d 31 (by decide)

theorem arr_out (d : Dev nD) : (dat m f9 d).arrAt 2 cfg0.N = sumArr m d := by
  have h := (dat m f9 d).arrAt_emb_eq_flushed 2 (fun t t' ht ht' hne => absurd (Fin.ext (by
      have h1 := (flush0_2 t).mp ht
      have h2 := (flush0_2 t').mp ht'
      have hN : cfg0.N = 32 := N_0
      have := t.isLt
      have := t'.isLt
      omega)) hne) ⟨31, by decide⟩ ((flush0_2 _).mpr rfl) (ix2 0 0 : S1x1.Idx)
  funext i
  exact (congrArg ((dat m f9 d).arrAt 2 cfg0.N) ((ix_S1x1 i).trans (ix_S1x1 _).symm)).trans h

theorem arrays_eq (d : Dev nD) (X : (w : Fin cfg0.W) → Buf (Elt F) ((cfg0.win w).arr.view.loc (d.tc : Thread nD τ))) :
    (dat m f9 d).arrays X = iprop((pLoc d ↦{Transfers.shareTokN fullShare 0} X 0) ∗ (pLoc d ↦{Transfers.shareTokN fullShare 1} X 1)
      ∗ (sLoc d ↦{fullShare} X 2)) := by
  unfold Pipeline.Dat.arrays
  rw [bigSep_W0]
  have h0 : (cfg0.win 0).arr.view.set = Finset.univ := View.set_whole _
  have h1 : (cfg0.win 1).arr.view.set = Finset.univ := View.set_whole _
  have h2 : (cfg0.win 2).arr.view.set = Finset.univ := View.set_whole _
  rw [h0, h2]
  rfl

set_option backward.isDefEq.respectTransparency.types false in
/-- The dense kernel's region, entered with the sum's array at anything and left with it at the sum. -/
def reg : Pipeline.RegionSeg (pcfgs (F := F)) adm (pdats m f9) (none : HIx 1) defs₀ Variants.none (K (F := F)).L (K (F := F)).lev 0 where
  win := winFacts₀0
  block_pos := block_pos0
  stage_whole := stage_whole0
  K := PEmpty
  osem k := k.elim
  ho := Pipeline.OwnSemFacts.none _
  hbody c := (body_obligation m f9 c).loose
  hwaits c := Pipeline.cellsWaits_intro _ _ _ 0 c fun w s t => (K (F := F)).mayWait_none _ (Otc_none c)
  pre c := regPts m c (f9 c)
  post c := regPts m c (sumArr m c)
  X _ := BI.emp
  Y _ := BI.emp
  Z _ := BI.emp
  hentry c := by
    rw [Pipeline.ownSems0_none, Pipeline.prefHeld_of_none _ rfl, show (pdats m f9 0 c).arrays _ = _ from arrays_eq m f9 c _]
    iintro ⟨⟨Ha, Hb, Ho, ⟨%W, %hW, HO⟩⟩, -, -⟩
    imodintro
    isplitl [Ha Hb Ho]
    · isplitl [Ha]; · iexact Ha
      isplitl [Hb]; · iexact Hb
      iexact Ho
    isplitr; · iempintro
    isplitl [HO]
    · unfold Pipeline.Dat.owesAt Pipeline.owesWithin
      iexists W; isplitr; · ipureintro; exact fun p hp => Or.inl (hW p hp)
      iexact HO
    isplitr <;> iempintro
  hin c := by
    rw [show (pdats m f9 0 c).Φ 0 = BI.emp from rfl]
    iintro -; iempintro
  hout c := by
    rw [Pipeline.ownSems0_none, show (Pipeline.scopedRest (Pipeline.pin (pcfgs (F := F)) adm 0).spec c : sProp 𝕄) = BI.emp from scopedRest0_eq c]
    iintro -
    isplitr; · iempintro
    isplitr <;> iempintro
  hexit c := by
    rw [show (pdats m f9 0 c).arrays _ = _ from arrays_eq m f9 c _]
    have e0 : (pdats m f9 0 c).arrAt 0 (Pipeline.pin (pcfgs (F := F)) adm 0).N = m (pLoc c) := (dat m f9 c).arrAt_in 0 rfl _
    have e1 : (pdats m f9 0 c).arrAt 1 (Pipeline.pin (pcfgs (F := F)) adm 0).N = m (pLoc c) := (dat m f9 c).arrAt_in 1 rfl _
    have e2 : (pdats m f9 0 c).arrAt 2 (Pipeline.pin (pcfgs (F := F)) adm 0).N = sumArr m c := arr_out m f9 c
    rw [e0, e1, e2]
    iintro ⟨⟨Ha, Hb, Ho⟩, HO, -, -⟩
    imodintro
    isplitl [Ha]; · iexact Ha
    isplitl [Hb]; · iexact Hb
    isplitl [Ho]; · iexact Ho
    unfold Pipeline.Dat.owesAt Pipeline.owesWithin
    icases HO with ⟨%W, %hW, HO⟩; iexists W
    isplitr
    · ipureintro
      intro p hp
      rcases hW hp with h | ⟨w, s, rfl⟩
      · exact h
      · exact le_of_eq (SparseCore.Cfg.lev_none _ _)
    iexact HO

end Cert.Proof.Sc

end
-- ==== Proof.HostOps.lean ====
/-
  @main's host operations: the two straight lines around the two kernels, as lists, and what their buffers hold at the end.
-/
module

public import proofs.«01_k».proof.Proof.Dense
public import Idealize.ShloMosaic.Lib.StableHlo.Run

@[expose] public section

noncomputable section

namespace Cert.Proof.Sc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (nullary unary binary reshape held after)

variable {F : FTy → Type}

local notation "𝕄" => MT nD τ sig (HIx 1) (Elt F) ℕ UU ℕ

variable (m : (ℓ : Loc nD τ sig) → Buf (Elt F) ℓ)

variable [FloatOps F] [Named F]

/-- The scalars, computed before the kernels: the smoothing weight, the confidence, and the sum of `p log p` of one row. -/
def opsA : List (HloOp τ sig (Elt F)) :=
  [ nullary main_cst (constant S_ .f32 0x3F800000#32),
    nullary main_cst_0 (constant S_ .f32 0x41200000#32),
    binary main_cst main_cst_0 main_v0 (Host.divf : (⟨S_, .f32⟩ : BufTy).Contents (Elt F) → (⟨S_, .f32⟩ : BufTy).Contents (Elt F) → (⟨S_, .f32⟩ : BufTy).Contents (Elt F)),
    nullary main_cst_1 (constant S_ .f32 0x3F800000#32),
    binary main_cst_1 main_v0 main_v1 (subf : (⟨S_, .f32⟩ : BufTy).Contents (Elt F) → (⟨S_, .f32⟩ : BufTy).Contents (Elt F) → (⟨S_, .f32⟩ : BufTy).Contents (Elt F)),
    nullary main_cst_2 (constant S_ .f32 0x47C34F00#32),
    binary main_v0 main_cst_2 main_v2 (Host.divf : (⟨S_, .f32⟩ : BufTy).Contents (Elt F) → (⟨S_, .f32⟩ : BufTy).Contents (Elt F) → (⟨S_, .f32⟩ : BufTy).Contents (Elt F)),
    nullary main_cst_3 (constant S_ .f32 0x47C34F00#32),
    binary main_cst_3 main_v2 main_v3 (mulf : (⟨S_, .f32⟩ : BufTy).Contents (Elt F) → (⟨S_, .f32⟩ : BufTy).Contents (Elt F) → (⟨S_, .f32⟩ : BufTy).Contents (Elt F)),
    unary main_v2 main_v4 (Host.log : (⟨S_, .f32⟩ : BufTy).Contents (Elt F) → (⟨S_, .f32⟩ : BufTy).Contents (Elt F)),
    binary main_v3 main_v4 main_v5 (mulf : (⟨S_, .f32⟩ : BufTy).Contents (Elt F) → (⟨S_, .f32⟩ : BufTy).Contents (Elt F) → (⟨S_, .f32⟩ : BufTy).Contents (Elt F)),
    unary main_v1 main_v6 (Host.log : (⟨S_, .f32⟩ : BufTy).Contents (Elt F) → (⟨S_, .f32⟩ : BufTy).Contents (Elt F)),
    binary main_v1 main_v6 main_v7 (mulf : (⟨S_, .f32⟩ : BufTy).Contents (Elt F) → (⟨S_, .f32⟩ : BufTy).Contents (Elt F) → (⟨S_, .f32⟩ : BufTy).Contents (Elt F)),
    binary main_v5 main_v7 main_v8 (addf : (⟨S_, .f32⟩ : BufTy).Contents (Elt F) → (⟨S_, .f32⟩ : BufTy).Contents (Elt F) → (⟨S_, .f32⟩ : BufTy).Contents (Elt F)) ]

/-- The result, put together from the scalars, the dense sum and the partial sums. -/
def opsB : List (HloOp τ sig (Elt F)) :=
  [ nullary main_cst_4 (constant S_ .f32 0x44800000#32),
    binary main_cst_4 main_v8 main_v11 (mulf : (⟨S_, .f32⟩ : BufTy).Contents (Elt F) → (⟨S_, .f32⟩ : BufTy).Contents (Elt F) → (⟨S_, .f32⟩ : BufTy).Contents (Elt F)),
    reshape main_v9 main_v12 (rfl : (.f32 : EltTy) = .f32) shapeCasts_S1x1_S_,
    binary main_v2 main_v12 main_v13 (mulf : (⟨S_, .f32⟩ : BufTy).Contents (Elt F) → (⟨S_, .f32⟩ : BufTy).Contents (Elt F) → (⟨S_, .f32⟩ : BufTy).Contents (Elt F)),
    binary main_v11 main_v13 main_v14 (subf : (⟨S_, .f32⟩ : BufTy).Contents (Elt F) → (⟨S_, .f32⟩ : BufTy).Contents (Elt F) → (⟨S_, .f32⟩ : BufTy).Contents (Elt F)),
    nullary main_cst_5 (constant S_ .f32 0x00000000#32),
    binary main_v10 main_cst_5 main_v15 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    binary main_v14 main_v15 main_v16 (addf : (⟨S_, .f32⟩ : BufTy).Contents (Elt F) → (⟨S_, .f32⟩ : BufTy).Contents (Elt F) → (⟨S_, .f32⟩ : BufTy).Contents (Elt F)) ]

/-- @main: the scalars, the dense kernel, the gather kernel, the result. -/
theorem main_eq (d : Dev nD) :
    main (F := F) d = (do
      StableHlo.seq opsA
      Prog.lift (.customCall (SparseCore.inner (Pipeline.entry 0)) ())
      sc.run d 0
      StableHlo.seq opsB) := by
  unfold main opsA opsB
  simp only [StableHlo.seq, bind_assoc, pure_bind]

/-- The buffers @main holds: every unscoped one. -/
def bufs : Finset (DevRef τ sig) := (StableHlo.tcRefs τ sig).filter fun b => ¬ b.isScoped

theorem opsA_sub : ∀ op ∈ (opsA : List (HloOp τ sig (Elt F))), op.bufs ⊆ bufs := by
  unfold opsA
  simp only [List.forall_mem_cons, List.not_mem_nil, false_imp_iff, implies_true, and_true]
  refine ⟨?_, ?_, ?_, ?_, ?_, ?_, ?_, ?_, ?_, ?_, ?_, ?_, ?_, ?_⟩ <;> exact of_decide_eq_true rfl

theorem opsB_sub : ∀ op ∈ (opsB : List (HloOp τ sig (Elt F))), op.bufs ⊆ bufs := by
  unfold opsB
  simp only [List.forall_mem_cons, List.not_mem_nil, false_imp_iff, implies_true, and_true]
  refine ⟨?_, ?_, ?_, ?_, ?_, ?_, ?_, ?_⟩ <;> exact of_decide_eq_true rfl

theorem opsA_fresh : ∀ op ∈ (opsA : List (HloOp τ sig (Elt F))), op.fresh = ∅ := by
  unfold opsA
  simp only [List.forall_mem_cons, List.not_mem_nil, false_imp_iff, implies_true, and_true]
  refine ⟨?_, ?_, ?_, ?_, ?_, ?_, ?_, ?_, ?_, ?_, ?_, ?_, ?_, ?_⟩ <;> rfl

theorem opsB_fresh : ∀ op ∈ (opsB : List (HloOp τ sig (Elt F))), op.fresh = ∅ := by
  unfold opsB
  simp only [List.forall_mem_cons, List.not_mem_nil, false_imp_iff, implies_true, and_true]
  refine ⟨?_, ?_, ?_, ?_, ?_, ?_, ?_, ?_⟩ <;> rfl

/-! ## The valuations -/

/-- The device's buffers at launch, after the scalars, after the two kernels, and at the end. -/
abbrev Vin (d : Dev nD) : Valuation τ sig (Elt F) := fun b => m (d, b)
def Vsc (d : Dev nD) : Valuation τ sig (Elt F) := after opsA (Vin m d)
def Vk (d : Dev nD) : Valuation τ sig (Elt F) :=
  Function.update (Function.update (Vsc m d) (Proc.devRef .tc main_v9) (sumArr m d)) (Proc.devRef .tc main_v10) (sumsArr m d)
def Vout (d : Dev nD) : Valuation τ sig (Elt F) := after opsB (Vk m d)

/-- The result: `1024 k₁ − s · dense + Σ partial`, the scalars as @main computes them. -/
def outVal (d : Dev nD) : FVec F S_ .f32 :=
  have smoothing : FVec F S_ .f32 := Host.divf (constant S_ .f32 0x3F800000#32) (constant S_ .f32 0x41200000#32)
  have conf : FVec F S_ .f32 := subf (constant S_ .f32 0x3F800000#32) smoothing
  have s : FVec F S_ .f32 := Host.divf smoothing (constant S_ .f32 0x47C34F00#32)
  have k1 : FVec F S_ .f32 := addf (mulf (mulf (constant S_ .f32 0x47C34F00#32) s) (Host.log s)) (mulf conf (Host.log conf))
  addf (subf (mulf (constant S_ .f32 0x44800000#32) k1) (mulf s (shapeCast S_ (show FVec F S1x1 .f32 from sumArr m d) shapeCasts_S1x1_S_)))
    (Host.reduceAdd (show FVec F S32x16 .f32 from sumsArr m d) (constant S_ .f32 0x00000000#32) reducesTo_S32x16_S_d0_1 h_S_)

theorem Vsc_arg0 (d : Dev nD) : Vsc m d (Proc.devRef .tc main_arg0) = m (pLoc d) := by
  unfold Vsc opsA; after_results_simp <;> rfl
theorem Vsc_arg1 (d : Dev nD) : Vsc m d (Proc.devRef .tc main_arg1) = m (gLoc d) := by
  unfold Vsc opsA; after_results_simp <;> rfl

theorem Vk_v9 (d : Dev nD) : Vk m d (Proc.devRef .tc main_v9) = sumArr m d := by
  unfold Vk; rw [Function.update_of_ne (by decide), Function.update_self]
theorem Vk_v10 (d : Dev nD) : Vk m d (Proc.devRef .tc main_v10) = sumsArr m d := by
  unfold Vk; rw [Function.update_self]
theorem Vk_of_ne (d : Dev nD) {b : DevRef τ sig} (h9 : b ≠ Proc.devRef .tc main_v9) (h10 : b ≠ Proc.devRef .tc main_v10) : Vk m d b = Vsc m d b := by
  unfold Vk; rw [Function.update_of_ne h10, Function.update_of_ne h9]

theorem Vout_arg0 (d : Dev nD) : Vout m d (Proc.devRef .tc main_arg0) = m (pLoc d) := by
  have h : Vout m d (Proc.devRef .tc main_arg0) = Vk m d (Proc.devRef .tc main_arg0) := by
    unfold Vout opsB; after_results_simp
  exact h.trans ((Vk_of_ne m d (by decide) (by decide)).trans (Vsc_arg0 m d))
theorem Vout_arg1 (d : Dev nD) : Vout m d (Proc.devRef .tc main_arg1) = m (gLoc d) := by
  have h : Vout m d (Proc.devRef .tc main_arg1) = Vk m d (Proc.devRef .tc main_arg1) := by
    unfold Vout opsB; after_results_simp
  exact h.trans ((Vk_of_ne m d (by decide) (by decide)).trans (Vsc_arg1 m d))

theorem Vk_v8 (d : Dev nD) : Vk m d (Proc.devRef .tc main_v8) = (
    have smoothing : FVec F S_ .f32 := Host.divf (constant S_ .f32 0x3F800000#32) (constant S_ .f32 0x41200000#32)
    have conf : FVec F S_ .f32 := subf (constant S_ .f32 0x3F800000#32) smoothing
    have s : FVec F S_ .f32 := Host.divf smoothing (constant S_ .f32 0x47C34F00#32)
    (addf (mulf (mulf (constant S_ .f32 0x47C34F00#32) s) (Host.log s)) (mulf conf (Host.log conf)) : FVec F S_ .f32)) := by
  rw [Vk_of_ne m d (by decide) (by decide)]
  unfold Vsc opsA; after_results_simp <;> rfl
theorem Vk_v2 (d : Dev nD) : Vk m d (Proc.devRef .tc main_v2) = (
    have smoothing : FVec F S_ .f32 := Host.divf (constant S_ .f32 0x3F800000#32) (constant S_ .f32 0x41200000#32)
    (Host.divf smoothing (constant S_ .f32 0x47C34F00#32) : FVec F S_ .f32)) := by
  rw [Vk_of_ne m d (by decide) (by decide)]
  unfold Vsc opsA; after_results_simp <;> rfl

theorem Vout_v16 (d : Dev nD) : Vout m d (Proc.devRef .tc main_v16) = outVal m d := by
  unfold Vout opsB
  after_results_simp
  rw [Vk_v8, Vk_v2, Vk_v9, Vk_v10]
  rfl

end Cert.Proof.Sc

end
-- ==== Proof.Deal.lean ====
/-
  How the arrays of the gather call are dealt to its thirty-two tiles and put together again: the rows of the array of partial
  sums, and the read shares of the two arguments.
-/
module

public import proofs.«01_k».proof.Proof.HostOps

@[expose] public section

noncomputable section

namespace Cert.Proof.Sc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

theorem oRowSet_eq (w : Fin 32) : oRowSet w = (orow w).set := by
  show ((View.whole (main_v10_scv : Ref sig .scVector)).slice (orow w)).set = _
  rw [View.set_slice]; exact Finset.map_refl

theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h

theorem orows_cover : (Finset.univ : Finset (Fin 32)).biUnion oRowSet = Finset.univ :=
  (Finset.biUnion_congr rfl fun i _ => oRowSet_eq i).trans (Rect.biUnion_part odiv)

theorem oPts_rows (d : Dev nD) (f : Buf (Elt F) (oLoc d)) :
    (oLoc d ↦{fullShare} f : sProp 𝕄) = bigSep Finset.univ fun w : Fin 32 => oRow d w f := by
  rw [← pointsTo_biUnion Finset.univ (ℓ := oLoc d) oRowSet orows_disjoint, orows_cover]

theorem oRow_some (d : Dev nD) (w : Fin 32) (f : Buf (Elt F) (oLoc d)) : (oRow d w f : sProp 𝕄) ⊢ iprop(∃ f, oRow d w f) := by
  iintro H; iexists f; iexact H

theorem oRows_some (d : Dev nD) (f : Buf (Elt F) (oLoc d)) :
    (bigSep Finset.univ fun w : Fin 32 => (oRow d w f : sProp 𝕄)) ⊢ bigSep Finset.univ fun w : Fin 32 => iprop(∃ f, oRow d w f) :=
  bigSep_mono fun w _ => oRow_some d w f

/-- The two SparseCores' sixteen tiles each are the thirty-two tiles. -/
theorem tiles_eq (Φ : Fin 32 → sProp 𝕄) :
    (bigSep Finset.univ fun c : Fin 2 => bigSep Finset.univ fun s : Fin 16 => Φ (wid c s)) = bigSep Finset.univ Φ := by
  rw [bigSep_univ_comm, ← bigSep_univ_prod (Φ := fun x : Fin 16 × Fin 2 => Φ (wid x.2 x.1)),
    bigSep_univ_equiv (finProdFinEquiv : Fin 16 × Fin 2 ≃ Fin 32) Φ]
  exact bigSep_congr fun x _ => congrArg Φ (Fin.ext (by simp [wid, finProdFinEquiv]; omega))

/-- A whole argument is what is left after thirty-two read shares, and the shares. -/
theorem shares (ℓ : Loc nD τ sig) (f : Buf (Elt F) ℓ) :
    (ℓ ↦{fullShare} f : sProp 𝕄) ⊣⊢ iprop((ℓ ↦{Transfers.shareDrop fullShare 32} f) ∗ bigSep Finset.univ fun w : Fin 32 => ℓ ↦{tq w} f) :=
  Transfers.pointsTo_toks fullShare 32

/-- A whole argument is what is left after two read shares, and the two. -/
theorem two_shares (ℓ : Loc nD τ sig) (f : Buf (Elt F) ℓ) :
    (ℓ ↦{fullShare} f : sProp 𝕄) ⊣⊢ iprop((ℓ ↦{Transfers.shareDrop fullShare 2} f) ∗ (ℓ ↦{Transfers.shareTokN fullShare 0} f)
      ∗ ℓ ↦{Transfers.shareTokN fullShare 1} f) := by
  have h := Transfers.pointsTo_toks (ℓ := ℓ) (S := Finset.univ) (f := f) (Ix := HIx 1) (Name := ℕ) (U := UU) (Lvl := ℕ) fullShare 2
  rw [bigSep_univ_eq_bigSepL [0, 1] (by decide) (by decide)] at h
  exact h

variable [FloatOps F] [Named F]

/-- What the gather call takes: the shares of the arguments and the array of partial sums at anything. -/
theorem st_eq (d : Dev nD) : (bigSep Finset.univ fun c : Fin ((K (F := F)).nCore 0) => (P m).st 0 d c)
    = bigSep Finset.univ fun w : Fin 32 => goP m d w := tiles_eq _

theorem dn_eq (d : Dev nD) : (bigSep Finset.univ fun c : Fin ((K (F := F)).nCore 0) => (P m).dn 0 d c)
    = bigSep Finset.univ fun w : Fin 32 => tdP m d w := tiles_eq _

/-- The call's deal, from both arguments whole and the array of partial sums whole. -/
theorem deal (d : Dev nD) (f : Buf (Elt F) (oLoc d)) :
    iprop((pLoc d ↦{fullShare} m (pLoc d)) ∗ (gLoc d ↦{fullShare} m (gLoc d)) ∗ (oLoc d ↦{fullShare} f))
      ⊢ (iprop((bigSep Finset.univ fun c : Fin ((K (F := F)).nCore 0) => (P m).st 0 d c)
          ∗ (pLoc d ↦{Transfers.shareDrop fullShare 32} m (pLoc d)) ∗ (gLoc d ↦{Transfers.shareDrop fullShare 32} m (gLoc d))) : sProp 𝕄) := by
  rw [st_eq, oPts_rows, bigSep_sep', bigSep_sep']
  iintro ⟨Hp, Hg, Ho⟩
  ihave Hp := (shares (pLoc d) (m (pLoc d))).1 $$ Hp
  icases Hp with ⟨Hp, Hps⟩
  ihave Hg := (shares (gLoc d) (m (gLoc d))).1 $$ Hg
  icases Hg with ⟨Hg, Hgs⟩
  isplitl [Hps Hgs Ho]
  · isplitl [Hps]; · iexact Hps
    isplitl [Hgs]; · iexact Hgs
    iapply (oRows_some d f); iexact Ho
  isplitl [Hp]; · iexact Hp
  iexact Hg

/-- What comes back, put together. -/
theorem undeal (d : Dev nD) :
    iprop((bigSep Finset.univ fun c : Fin ((K (F := F)).nCore 0) => (P m).dn 0 d c)
          ∗ (pLoc d ↦{Transfers.shareDrop fullShare 32} m (pLoc d)) ∗ (gLoc d ↦{Transfers.shareDrop fullShare 32} m (gLoc d)))
      ⊢ (iprop((pLoc d ↦{fullShare} m (pLoc d)) ∗ (gLoc d ↦{fullShare} m (gLoc d)) ∗ (oLoc d ↦{fullShare} sumsArr m d)) : sProp 𝕄) := by
  rw [dn_eq, oPts_rows, bigSep_sep', bigSep_sep']
  iintro ⟨⟨Hps, Hgs, Ho⟩, Hp, Hg⟩
  isplitl [Hp Hps]
  · iapply (shares (pLoc d) (m (pLoc d))).2
    isplitl [Hp] <;> iassumption
  isplitl [Hg Hgs]
  · iapply (shares (gLoc d) (m (gLoc d))).2
    isplitl [Hg] <;> iassumption
  iexact Ho

end Cert.Proof.Sc

end
-- ==== Proof.Windows.lean ====
/-
  The sixty-four copies of one tile: two per row, the gathered window of the row and the row's first window, all on one
  semaphore. Here is where each reads and writes, what each brings, and the step that issues one.
-/
module

public import proofs.«01_k».proof.Proof.Setup

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch pending)
open Idealize.ShloMosaic.ValueIdx (ix1 ix2 eq_ix1 eq_ix2)

variable {F : FTy → Type}

local notation "𝕄" => MT nD τ sig (HIx 1) (Elt F) ℕ UU ℕ

variable (m : (ℓ : Loc nD τ sig) → Buf (Elt F) ℓ)

section Copies

variable (d : Dev nD) (L : grid1.Coords)

abbrev cV (L : grid1.Coords) : Fin τ.nSC := (L 0).castLE hcore1
abbrev jV (L : grid1.Coords) : Fin τ.nSub := (L 1).castLE hsub1
/-- The tile's number. -/
abbrev wL (L : grid1.Coords) : Fin 32 := wid (L 0) (L 1)
/-- The tile's thread. -/
abbrev thr (d : Dev nD) (L : grid1.Coords) : Thread nD τ := V d (cV L) (jV L)

/-! ## Where a copy reads -/

/-- The word a copy's column is computed from: the row's own for an even copy, zero for an odd one. -/
def colWord (t : ℕ) : BitVec 32 :=
  if t % 2 = 0 then IntOp.andi (goldAt m d (rowOf (wL L) (t / 2))) 4294967280#32 else 0#32

/-- The corner of the window row `r` reads at column word `v`, as the tile computes it. -/
def corner (r v : BitVec 32) : Fin 2 → ℕ :=
  ![(Scalar.addi (Scalar.muli (Scalar.addi (Scalar.muli (BitVec.ofNat 32 (L 1).val) 2#32) (BitVec.ofNat 32 (L 0).val)) 32#32) r).toNat, v.toNat]

theorem corner_eq (r : ℕ) (hr : r < 32) (v : BitVec 32) : corner L (BitVec.ofNat 32 r) v = ![(rowOf (wL L) r).val, v.toNat] := by
  have h1 : (L 1).val < 16 := (L 1).isLt
  have h0 : (L 0).val < 2 := (L 0).isLt
  unfold corner rowOf wL wid
  congr 1
  simp only [Scalar.addi, Scalar.muli, IntOp.addi, IntOp.muli, BitVec.toNat_add, BitVec.toNat_mul, BitVec.toNat_ofNat]
  omega

/-- The word with its last four bits cleared: the multiple of sixteen at or below it. -/
theorem andi_high (g : BitVec 32) : (IntOp.andi g 4294967280#32).toNat = g.toNat / 16 * 16 := by
  have : IntOp.andi g 4294967280#32 = (g >>> 4) <<< 4 := by
    unfold IntOp.andi
    ext i hi
    simp only [BitVec.getElem_and, BitVec.getElem_shiftLeft, BitVec.getLsbD_ushiftRight]
    interval_cases i <;> simp <;> rfl
  rw [this, BitVec.toNat_shiftLeft, BitVec.toNat_ushiftRight, Nat.shiftRight_eq_div_pow, Nat.shiftLeft_eq]
  omega

theorem andi_window (g : BitVec 32) (hg : g.toNat < 100000) :
    16 ∣ (IntOp.andi g 4294967280#32).toNat ∧ (IntOp.andi g 4294967280#32).toNat + 16 ≤ 100000 := by
  rw [andi_high]; omega

theorem colWord_ok (hpre : PreOK m) (t : ℕ) : 16 ∣ (colWord m d L t).toNat ∧ (colWord m d L t).toNat + 16 ≤ 100000 := by
  unfold colWord
  split
  · exact andi_window _ (hpre d _)
  · decide

theorem corner_inb (hpre : PreOK m) (t : Fin 64) :
    ∀ a, corner L (BitVec.ofNat 32 (t.val / 2)) (colWord m d L t.val) a + S1x16.size a ≤ S1024x100000.size a := by
  rw [corner_eq L _ (by omega)]
  intro a
  match a with
  | 0 => exact (rowOf (wL L) (t.val / 2)).isLt
  | 1 => exact (colWord_ok m d L hpre t.val).2

/-- The window copy `t` reads. -/
abbrev srcAt (off : Fin 2 → ℕ) (h : ∀ a, off a + S1x16.size a ≤ S1024x100000.size a) : Memref sig .scVector .hbm S16 .f32 :=
  ((pV).slice (Rect.unit (s := S1024x100000) off S1x16.size h) (fun _ => rfl)).squeeze S16 squeezes_S1x16_S16
abbrev srcK (hpre : PreOK m) (t : Fin 64) : Memref sig .scVector .hbm S16 .f32 := srcAt _ (corner_inb m d L hpre t)

/-! ## Where a copy writes -/

theorem inbRow (r : Fin 32) : ∀ a, (![r.val, 0] : Fin 2 → ℕ) a + S1x16.size a ≤ S32x128.size a := by
  intro a
  match a with
  | 0 => exact r.isLt
  | 1 => show 0 + 16 ≤ 128; omega

abbrev dstAt (b : Memref sig .scVector .vmem S32x128 .f32) (r : Fin 32) : Memref sig .scVector .vmem S16 .f32 :=
  (b.slice (Rect.unit (s := S32x128) ![r.val, 0] S1x16.size (inbRow r)) (fun _ => rfl)).squeeze S16 squeezes_S1x16_S16

/-- Every copy counts the same units. -/
abbrev N : ℕ := (dstAt wV 0).view.amount (SemLoc.dma (sig := sig) cc1_scratch4.sem)

variable (fw : Buf (Elt F) ((wV).view.loc (thr d L))) (fz : Buf (Elt F) ((zV).view.loc (thr d L)))

/-- The share the copy reads under. -/
abbrev cq (t : ℕ) : PosShare TreeShare := Transfers.shareTokN (tq (wL L)) t

/-- The piece of `pred` copy `t` reads. -/
abbrev srcPt (hpre : PreOK m) (t : Fin 64) : sProp 𝕄 :=
  (srcK m d L hpre t).view.loc (thr d L) ↦[(srcK m d L hpre t).view.set]{cq L t.val} m (pLoc d)

/-- The row copy `t` belongs to. -/
def rowI (t : Fin 64) : Fin 32 := ⟨t.val / 2, by have := t.isLt; omega⟩

/-- One row's place in the gathered windows, and in the first windows. -/
abbrev wPt (r : Fin 32) (f : Buf (Elt F) ((wV).view.loc (thr d L))) : sProp 𝕄 :=
  (wV).view.loc (thr d L) ↦[(dstAt wV r).view.set]{fullShare} f
abbrev zPt (r : Fin 32) (f : Buf (Elt F) ((zV).view.loc (thr d L))) : sProp 𝕄 :=
  (zV).view.loc (thr d L) ↦[(dstAt zV r).view.set]{fullShare} f

/-- The place copy `t` writes, before it. -/
def dstPre (t : Fin 64) : sProp 𝕄 := if t.val % 2 = 0 then wPt d L (rowI t) fw else zPt d L (rowI t) fz

/-- What copy `t` brings. -/
abbrev brought (hpre : PreOK m) (t : Fin 64) : FVec F S16 .f32 :=
  ReadAs.same.apply ((srcK m d L hpre t).view.read (Elt F) (m (pLoc d)))

/-- The place copy `t` writes, after it. -/
def dstPost (hpre : PreOK m) (t : Fin 64) : sProp 𝕄 :=
  if t.val % 2 = 0 then wPt d L (rowI t) ((dstAt wV (rowI t)).view.write (Elt F) fw (brought m d L hpre t) Finset.univ)
  else zPt d L (rowI t) ((dstAt zV (rowI t)).view.write (Elt F) fz (brought m d L hpre t) Finset.univ)

/-- Copy `t`'s delivery: the place written, the piece of `pred` back. -/
def deliv (hpre : PreOK m) (t : Fin 64) : sProp 𝕄 := iprop(dstPost m d L fw fz hpre t ∗ srcPt m d L hpre t)
/-- What copy `t` is issued from. -/
def fuel (hpre : PreOK m) (t : Fin 64) : sProp 𝕄 := iprop(dstPre d L fw fz t ∗ srcPt m d L hpre t)

instance deliv_storable (hpre : PreOK m) (t : Fin 64) : Storable (upEmb : UEmb _ 𝕄) (deliv m d L fw fz hpre t) := by
  unfold deliv dstPost
  split <;> infer_instance

/-- The tile with its first `k` copies issued: the batch, and what the others are issued from. -/
def St (hpre : PreOK m) (k : ℕ) : sProp 𝕄 :=
  iprop(Batch (countersEmb (U := UU)) (thr d L) (.dma cc1_scratch4.sem) (default : HIx 1) N (deliv m d L fw fz hpre) k 0
    ∗ bigSep (pending k) (fuel m d L fw fz hpre))

variable [FloatOps F] [Named F]

/-- A check in range is passed. -/
theorem issue_chk {Pp : Prop} {dec : Decidable Pp} {α : Type} {kk : PLift Pp → Prog (TpuEff nD τ sig (Elt F) Λ₀ (thr d L).2) α}
    {Q : α → sProp 𝕄} (h : Pp) :
    wp frame (wpE (defs₀ (F := F)) 𝒱₀ (thr d L) none) Set.univ (kk ⟨h⟩) Q
      ⊢ wp frame (wpE (defs₀ (F := F)) 𝒱₀ (thr d L) none) Set.univ (.op (.assume Pp dec) kk) Q :=
  wp_assume 𝒱₀ (thr d L) none Set.univ h

/-- The first copy of row `r`, into the gathered windows. -/
theorem issue_w (hpre : PreOK m) (r k : ℕ) (hr : r < 32) (hk : k = 2 * r)
    {off : Fin 2 → ℕ} {ho : ∀ a, off a + S1x16.size a ≤ S1024x100000.size a}
    (hoff : off = corner L (BitVec.ofNat 32 r) (IntOp.andi (goldAt m d (rowOf (wL L) r)) 4294967280#32))
    {ws wd wt} {α : Type} {kk : PUnit.{1} → Prog (TpuEff nD τ sig (Elt F) Λ₀ (thr d L).2) α} {Q : α → sProp 𝕄} :
    St m d L fw fz hpre k
      ⊢ iprop((St m d L fw fz hpre (k + 1) -∗ wp frame (wpE (defs₀ (F := F)) 𝒱₀ (thr d L) none) Set.univ (kk ⟨⟩) Q)
        -∗ wp frame (wpE (defs₀ (F := F)) 𝒱₀ (thr d L) none) Set.univ
          (.op (.enqueueDma (srcAt off ho) (.here (dstAt wV ⟨r, hr⟩)) (.dma cc1_scratch4.sem) ws wd wt) kk) Q) := by
  have hk64 : k < 64 := by omega
  have hc : colWord m d L k = IntOp.andi (goldAt m d (rowOf (wL L) r)) 4294967280#32 := by
    unfold colWord; rw [if_pos (by omega), show k / 2 = r by omega]
  have hoff' : off = corner L (BitVec.ofNat 32 (k / 2)) (colWord m d L k) := by
    rw [hc, show k / 2 = r by omega]; exact hoff
  subst hoff'
  have er : rowI ⟨k, hk64⟩ = ⟨r, hr⟩ := Fin.ext (by show k / 2 = r; omega)
  have e1 : fuel m d L fw fz hpre ⟨k, hk64⟩ = iprop(wPt d L ⟨r, hr⟩ fw ∗ srcPt m d L hpre ⟨k, hk64⟩) := by
    unfold fuel dstPre; rw [if_pos (show (⟨k, hk64⟩ : Fin 64).val % 2 = 0 by simp only; omega), er]
  have e2 : deliv m d L fw fz hpre ⟨k, hk64⟩ = iprop(wPt d L ⟨r, hr⟩
      ((dstAt wV ⟨r, hr⟩).view.write (Elt F) fw (brought m d L hpre ⟨k, hk64⟩) Finset.univ) ∗ srcPt m d L hpre ⟨k, hk64⟩) := by
    unfold deliv dstPost; rw [if_pos (show (⟨k, hk64⟩ : Fin 64).val % 2 = 0 by simp only; omega), er]
  unfold St
  rw [Transfers.bigSep_pending_step _ k hk64, e1]
  iintro ⟨HB, ⟨⟨Hd, Hs⟩, Hrest⟩⟩ Hk
  iapply (Transfers.wp_dmaBatch (countersEmb (U := UU)) 𝒱₀ (thr d L) none (src := srcK m d L hpre ⟨k, hk64⟩) (dst := dstAt wV ⟨r, hr⟩)
    (default : HIx 1) N rfl subset_rfl (D := deliv m d L fw fz hpre) (j := k) (u := 0) hk64 (Nat.zero_le _)
    (by rw [e2])) $$ [Hd Hs HB]
  · isplitl [Hs]; · iexact Hs
    isplitl [Hd]; · iexact Hd
    iexact HB
  iintro HB
  iapply Hk
  isplitl [HB] <;> iassumption

/-- The second copy of row `r`, into the first windows. -/
theorem issue_z (hpre : PreOK m) (r k : ℕ) (hr : r < 32) (hk : k = 2 * r + 1)
    {off : Fin 2 → ℕ} {ho : ∀ a, off a + S1x16.size a ≤ S1024x100000.size a}
    (hoff : off = corner L (BitVec.ofNat 32 r) 0#32)
    {ws wd wt} {α : Type} {kk : PUnit.{1} → Prog (TpuEff nD τ sig (Elt F) Λ₀ (thr d L).2) α} {Q : α → sProp 𝕄} :
    St m d L fw fz hpre k
      ⊢ iprop((St m d L fw fz hpre (k + 1) -∗ wp frame (wpE (defs₀ (F := F)) 𝒱₀ (thr d L) none) Set.univ (kk ⟨⟩) Q)
        -∗ wp frame (wpE (defs₀ (F := F)) 𝒱₀ (thr d L) none) Set.univ
          (.op (.enqueueDma (srcAt off ho) (.here (dstAt zV ⟨r, hr⟩)) (.dma cc1_scratch4.sem) ws wd wt) kk) Q) := by
  have hk64 : k < 64 := by omega
  have hc : colWord m d L k = 0#32 := by unfold colWord; rw [if_neg (by omega)]
  have hoff' : off = corner L (BitVec.ofNat 32 (k / 2)) (colWord m d L k) := by
    rw [hc, show k / 2 = r by omega]; exact hoff
  subst hoff'
  have er : rowI ⟨k, hk64⟩ = ⟨r, hr⟩ := Fin.ext (by show k / 2 = r; omega)
  have e1 : fuel m d L fw fz hpre ⟨k, hk64⟩ = iprop(zPt d L ⟨r, hr⟩ fz ∗ srcPt m d L hpre ⟨k, hk64⟩) := by
    unfold fuel dstPre; rw [if_neg (show ¬ (⟨k, hk64⟩ : Fin 64).val % 2 = 0 by simp only; omega), er]
  have e2 : deliv m d L fw fz hpre ⟨k, hk64⟩ = iprop(zPt d L ⟨r, hr⟩
      ((dstAt zV ⟨r, hr⟩).view.write (Elt F) fz (brought m d L hpre ⟨k, hk64⟩) Finset.univ) ∗ srcPt m d L hpre ⟨k, hk64⟩) := by
    unfold deliv dstPost; rw [if_neg (show ¬ (⟨k, hk64⟩ : Fin 64).val % 2 = 0 by simp only; omega), er]
  unfold St
  rw [Transfers.bigSep_pending_step _ k hk64, e1]
  iintro ⟨HB, ⟨⟨Hd, Hs⟩, Hrest⟩⟩ Hk
  iapply (Transfers.wp_dmaBatch (countersEmb (U := UU)) 𝒱₀ (thr d L) none (src := srcK m d L hpre ⟨k, hk64⟩) (dst := dstAt zV ⟨r, hr⟩)
    (default : HIx 1) N rfl subset_rfl (D := deliv m d L fw fz hpre) (j := k) (u := 0) hk64 (Nat.zero_le _)
    (by rw [e2])) $$ [Hd Hs HB]
  · isplitl [Hs]; · iexact Hs
    isplitl [Hd]; · iexact Hd
    iexact HB
  iintro HB
  iapply Hk
  isplitl [HB] <;> iassumption

end Copies

end Cert.Proof.Sc

end
-- ==== Proof.Join.lean ====
/-
  What one tile's copies are issued from, sorted out of what it holds, and what they bring, put back together: the two
  scratch buffers row by row, the share of `pred` window by window.
-/
module

public import proofs.«01_k».proof.Proof.Windows

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch pending)
open Idealize.ShloMosaic.ValueIdx (ix1 ix2 eq_ix1 eq_ix2)

variable {F : FTy → Type}

local notation "𝕄" => MT nD τ sig (HIx 1) (Elt F) ℕ UU ℕ

variable (m : (ℓ : Loc nD τ sig) → Buf (Elt F) ℓ)

/-! ## Sixty-four copies are thirty-two pairs -/

/-- The even copy of a row, and the odd one. -/
def evenOf : Fin 32 ↪ Fin 64 := ⟨fun r => ⟨2 * r.val, by omega⟩, fun a b h => Fin.ext (by have := congrArg Fin.val h; simp only at this; omega)⟩
def oddOf : Fin 32 ↪ Fin 64 := ⟨fun r => ⟨2 * r.val + 1, by omega⟩, fun a b h => Fin.ext (by have := congrArg Fin.val h; simp only at this; omega)⟩

theorem even_image : (Finset.univ.filter fun t : Fin 64 => t.val % 2 = 0) = Finset.univ.map evenOf := by decide
theorem odd_image : (Finset.univ.filter fun t : Fin 64 => ¬ t.val % 2 = 0) = Finset.univ.map oddOf := by decide

/-- A product over the copies is one over the rows' even copies and one over their odd ones. -/
theorem bigSep_pairs (Φ : Fin 64 → sProp 𝕄) :
    bigSep Finset.univ Φ = iprop((bigSep Finset.univ fun r => Φ (evenOf r)) ∗ bigSep Finset.univ fun r => Φ (oddOf r)) := by
  rw [bigSep_filter_split Finset.univ (fun t : Fin 64 => t.val % 2 = 0), even_image, odd_image, bigSep_map, bigSep_map]; rfl

theorem rowI_even (r : Fin 32) : rowI (evenOf r) = r := Fin.ext (by show 2 * r.val / 2 = r.val; omega)
theorem rowI_odd (r : Fin 32) : rowI (oddOf r) = r := Fin.ext (by show (2 * r.val + 1) / 2 = r.val; omega)

section Rows

variable (d : Dev nD) (L : grid1.Coords)

/-! ## The rows of the two scratch buffers -/

theorem mem_wRow (r : Fin 32) (i : S32x128.Idx) : i ∈ (dstAt wV r).view.set ↔ (i 0).val = r.val ∧ (i 1).val < 16 := by
  show i ∈ (((wV).view.slice (Rect.unit (s := S32x128) ![r.val, 0] S1x16.size (inbRow r))).reshape S16 squeezes_S1x16_S16.numel_eq).set ↔ _
  rw [View.set_reshape]
  show i ∈ ((View.whole (cc1_scratch1 : Ref sig .scVector)).slice (Rect.unit (s := S32x128) ![r.val, 0] S1x16.size (inbRow r))).set ↔ _
  rw [View.set_slice_whole, Rect.mem_set_unit]
  constructor
  · intro h
    have h0 := h 0; have h1 := h 1
    simp at h0 h1
    omega
  · rintro ⟨h0, h1⟩ a
    match a with
    | 0 => show r.val ≤ (i 0).val ∧ (i 0).val < r.val + 1; omega
    | 1 => show 0 ≤ (i 1).val ∧ (i 1).val < 0 + 16; omega

theorem mem_zRow (r : Fin 32) (i : S32x128.Idx) : i ∈ (dstAt zV r).view.set ↔ (i 0).val = r.val ∧ (i 1).val < 16 := by
  show i ∈ (((zV).view.slice (Rect.unit (s := S32x128) ![r.val, 0] S1x16.size (inbRow r))).reshape S16 squeezes_S1x16_S16.numel_eq).set ↔ _
  rw [View.set_reshape]
  show i ∈ ((View.whole (cc1_scratch2 : Ref sig .scVector)).slice (Rect.unit (s := S32x128) ![r.val, 0] S1x16.size (inbRow r))).set ↔ _
  rw [View.set_slice_whole, Rect.mem_set_unit]
  constructor
  · intro h
    have h0 := h 0; have h1 := h 1
    simp at h0 h1
    omega
  · rintro ⟨h0, h1⟩ a
    match a with
    | 0 => show r.val ≤ (i 0).val ∧ (i 0).val < r.val + 1; omega
    | 1 => show 0 ≤ (i 1).val ∧ (i 1).val < 0 + 16; omega

/-- The lanes no copy writes. -/
abbrev wRest : Finset S32x128.Idx := Finset.univ \ Finset.univ.biUnion fun r : Fin 32 => (dstAt wV r).view.set
abbrev zRest : Finset S32x128.Idx := Finset.univ \ Finset.univ.biUnion fun r : Fin 32 => (dstAt zV r).view.set

theorem w_rows (f : Buf (Elt F) ((wV).view.loc (thr d L))) :
    ((wV).view.loc (thr d L) ↦{fullShare} f : sProp 𝕄)
      ⊣⊢ iprop((bigSep Finset.univ fun r : Fin 32 => wPt d L r f) ∗ (wV).view.loc (thr d L) ↦[wRest]{fullShare} f) := by
  have h : ∀ r ∈ (Finset.univ : Finset (Fin 32)), ∀ r' ∈ (Finset.univ : Finset (Fin 32)), r ≠ r' →
      Disjoint ((dstAt wV r).view.set) ((dstAt wV r').view.set) := fun r _ r' _ hne =>
    Finset.disjoint_left.mpr fun i hi hi' => hne (Fin.ext (((mem_wRow r i).mp hi).1.symm.trans ((mem_wRow r' i).mp hi').1))
  rw [← pointsTo_biUnion Finset.univ (ℓ := (wV).view.loc (thr d L)) (fun r => (dstAt wV r).view.set) h]
  exact pointsTo_split_subset (Finset.subset_univ _)

theorem z_rows (f : Buf (Elt F) ((zV).view.loc (thr d L))) :
    ((zV).view.loc (thr d L) ↦{fullShare} f : sProp 𝕄)
      ⊣⊢ iprop((bigSep Finset.univ fun r : Fin 32 => zPt d L r f) ∗ (zV).view.loc (thr d L) ↦[zRest]{fullShare} f) := by
  have h : ∀ r ∈ (Finset.univ : Finset (Fin 32)), ∀ r' ∈ (Finset.univ : Finset (Fin 32)), r ≠ r' →
      Disjoint ((dstAt zV r).view.set) ((dstAt zV r').view.set) := fun r _ r' _ hne =>
    Finset.disjoint_left.mpr fun i hi hi' => hne (Fin.ext (((mem_zRow r i).mp hi).1.symm.trans ((mem_zRow r' i).mp hi').1))
  rw [← pointsTo_biUnion Finset.univ (ℓ := (zV).view.loc (thr d L)) (fun r => (dstAt zV r).view.set) h]
  exact pointsTo_split_subset (Finset.subset_univ _)

/-! ## What the buffers hold once everything has landed -/

variable (fw : Buf (Elt F) ((wV).view.loc (thr d L))) (fz : Buf (Elt F) ((zV).view.loc (thr d L)))

/-- The gathered windows landed over `fw`, the first windows over `fz`. -/
def landW : Buf (Elt F) ((wV).view.loc (thr d L)) := fun (i : S32x128.Idx) =>
  if h : (i 1).val < 16 then win6 m d (wL L) (i 0).val (ix1 ⟨(i 1).val, h⟩) else fw i
def landZ : Buf (Elt F) ((zV).view.loc (thr d L)) := fun (i : S32x128.Idx) =>
  if h : (i 1).val < 16 then win7 m d (wL L) (i 0).val (ix1 ⟨(i 1).val, h⟩) else fz i

/-- A vector of sixteen lanes read as one row of sixteen. -/
theorem lane_ix (h : S16.numel = S1x16.numel) (l : S16.Idx) : Shape.reshapeEquiv h l = (ix2 (0 : Fin 1) (l 0 : Fin 16) : S1x16.Idx) := by
  have key : ∀ l : S16.Idx, Shape.reshapeEquiv squeezes_S1x16_S16.numel_eq l = (ix2 (0 : Fin 1) (l 0 : Fin 16) : S1x16.Idx) := by decide
  exact key l

theorem emb_wRow (r : Fin 32) (l : S16.Idx) : (dstAt wV r).view.emb l = (ix2 r ⟨(l 0).val, by have : (l 0).val < 16 := (l 0).isLt; omega⟩ : S32x128.Idx) := by
  show (Rect.unit (s := S32x128) ![r.val, 0] S1x16.size (inbRow r)).emb (Shape.reshapeEquiv squeezes_S1x16_S16.numel_eq l) = _
  rw [lane_ix]
  funext a
  match a with
  | 0 => exact Fin.ext (by show r.val + 1 * 0 = r.val; omega)
  | 1 => exact Fin.ext (by show 0 + 1 * (l 0).val = (l 0).val; omega)
theorem emb_zRow (r : Fin 32) (l : S16.Idx) : (dstAt zV r).view.emb l = (ix2 r ⟨(l 0).val, by have : (l 0).val < 16 := (l 0).isLt; omega⟩ : S32x128.Idx) :=
  emb_wRow r l

theorem emb_src (off : Fin 2 → ℕ) (h : ∀ a, off a + S1x16.size a ≤ S1024x100000.size a) (l : S16.Idx) (a : Fin 2) :
    ((srcAt off h).view.emb l a).val = off a + ((ix2 (0 : Fin 1) (l 0 : Fin 16) : S1x16.Idx) a).val := by
  show ((Rect.unit (s := S1024x100000) off S1x16.size h).emb (Shape.reshapeEquiv squeezes_S1x16_S16.numel_eq l) a).val = _
  rw [lane_ix]
  show off a + 1 * _ = _
  rw [Nat.one_mul]

/-- What a copy reads at lane `l`: `pred` at its row, `l` past its column. -/
theorem brought_apply (hpre : PreOK m) (t : Fin 64) (l : S16.Idx) :
    brought m d L hpre t l = predAt m d (rowOf (wL L) (t.val / 2)) ((colWord m d L t.val).toNat + (l 0).val) := by
  have hc := (colWord_ok m d L hpre t.val).2
  have hl : (l 0).val < 16 := (l 0).isLt
  show ReadAs.same.apply _ l = _
  rw [ReadAs.apply_same, View.read_apply]
  refine (cast_eq _ _).trans ?_
  unfold predAt
  refine congrArg (m (pLoc d)) ?_
  have hco := corner_eq L (t.val / 2) (by omega) (colWord m d L t.val)
  funext a
  apply Fin.ext
  refine (emb_src _ (corner_inb m d L hpre t) l a).trans ?_
  rw [hco]
  match a with
  | 0 => rfl
  | 1 =>
    show (colWord m d L t.val).toNat + (l 0).val = ((colWord m d L t.val).toNat + (l 0).val) % 100000
    rw [Nat.mod_eq_of_lt (by omega)]

/-- Each landed row is the buffer that has everything landed, on the row. -/
theorem landed_w (hpre : PreOK m) (r : Fin 32) :
    (wPt d L r ((dstAt wV r).view.write (Elt F) fw (brought m d L hpre (evenOf r)) Finset.univ) : sProp 𝕄) = wPt d L r (landW m d L fw) := by
  refine pointsTo_congr fun i hi => ?_
  obtain ⟨l, -, rfl⟩ := Finset.mem_map.mp hi
  rw [View.write_emb_of_mem _ _ (Finset.mem_univ l)]
  refine (cast_eq _ _).trans ?_
  rw [brought_apply]
  have hl : (l 0).val < 16 := (l 0).isLt
  have e : landW m d L fw ((dstAt wV r).view.emb l) = win6 m d (wL L) r.val l := by
    rw [emb_wRow]
    unfold landW
    exact (dif_pos hl).trans (congrArg (win6 m d (wL L) r.val) (eq_ix1 l).symm)
  rw [e]
  unfold win6 colOf colWord
  have h2 : (evenOf r).val / 2 = r.val := by show 2 * r.val / 2 = r.val; omega
  rw [if_pos (show (evenOf r).val % 2 = 0 by show 2 * r.val % 2 = 0; omega), h2]

theorem landed_z (hpre : PreOK m) (r : Fin 32) :
    (zPt d L r ((dstAt zV r).view.write (Elt F) fz (brought m d L hpre (oddOf r)) Finset.univ) : sProp 𝕄) = zPt d L r (landZ m d L fz) := by
  refine pointsTo_congr fun i hi => ?_
  obtain ⟨l, -, rfl⟩ := Finset.mem_map.mp hi
  rw [View.write_emb_of_mem _ _ (Finset.mem_univ l)]
  refine (cast_eq _ _).trans ?_
  rw [brought_apply]
  have hl : (l 0).val < 16 := (l 0).isLt
  have e : landZ m d L fz ((dstAt zV r).view.emb l) = win7 m d (wL L) r.val l := by
    rw [emb_zRow]
    unfold landZ
    exact (dif_pos hl).trans (congrArg (win7 m d (wL L) r.val) (eq_ix1 l).symm)
  rw [e]
  unfold win7 colWord
  have h2 : (oddOf r).val / 2 = r.val := by show (2 * r.val + 1) / 2 = r.val; omega
  rw [if_neg (show ¬ (oddOf r).val % 2 = 0 by show ¬ (2 * r.val + 1) % 2 = 0; omega), h2]
  exact congrArg _ (Nat.zero_add _)

/-! ## Before the first copy, after the last -/

/-- What the copies do not read of the tile's share of `pred`. -/
def srcRest (hpre : PreOK m) : sProp 𝕄 :=
  iprop((pLoc d ↦{Transfers.shareDrop (tq (wL L)) 64} m (pLoc d))
    ∗ bigSep Finset.univ fun t : Fin 64 => pLoc d ↦[Finset.univ \ (srcK m d L hpre t).view.set]{cq L t.val} m (pLoc d))

theorem src_split (hpre : PreOK m) :
    (pSh m d (wL L) : sProp 𝕄) ⊣⊢ iprop((bigSep Finset.univ fun t : Fin 64 => srcPt m d L hpre t) ∗ srcRest m d L hpre) := by
  have e : (bigSep Finset.univ fun t : Fin 64 => (pLoc d ↦{Transfers.shareTok (tq (wL L)) 64 t} m (pLoc d) : sProp 𝕄))
      = iprop((bigSep Finset.univ fun t : Fin 64 => srcPt m d L hpre t)
        ∗ bigSep Finset.univ fun t : Fin 64 => pLoc d ↦[Finset.univ \ (srcK m d L hpre t).view.set]{cq L t.val} m (pLoc d)) := by
    rw [← bigSep_sep']
    exact bigSep_congr fun t _ => by
      have h := pointsTo_split_subset (ℓ := pLoc d) (q := cq L t.val) (f := m (pLoc d)) (Val := Elt F) (Ix := HIx 1) (Name := ℕ) (U := UU) (Lvl := ℕ)
        (Finset.subset_univ (srcK m d L hpre t).view.set)
      exact Idealize.SL.BI.equiv_iff.mp ⟨h.1, h.2⟩
  constructor
  · refine (Transfers.pointsTo_toks (tq (wL L)) 64).1.trans ?_
    rw [e]
    unfold srcRest
    iintro ⟨Hd, Hs, Hc⟩
    isplitl [Hs]; · iexact Hs
    isplitl [Hd] <;> iassumption
  · refine BIBase.Entails.trans ?_ (Transfers.pointsTo_toks (tq (wL L)) 64).2
    rw [e]
    unfold srcRest
    iintro ⟨Hs, Hd, Hc⟩
    isplitl [Hd]; · iexact Hd
    isplitl [Hs] <;> iassumption

/-- The rows no copy writes, and the pieces of `pred` none reads. -/
def kept (hpre : PreOK m) : sProp 𝕄 :=
  iprop(((wV).view.loc (thr d L) ↦[wRest]{fullShare} fw) ∗ ((zV).view.loc (thr d L) ↦[zRest]{fullShare} fz) ∗ srcRest m d L hpre)

/-- What the copies are issued from, out of the two buffers and the share of `pred`. -/
theorem fuel_split (hpre : PreOK m) :
    iprop(pSh m d (wL L) ∗ ((wV).view.loc (thr d L) ↦{fullShare} fw) ∗ (zV).view.loc (thr d L) ↦{fullShare} fz)
      ⊢ (iprop((bigSep Finset.univ (fuel m d L fw fz hpre)) ∗ kept m d L fw fz hpre) : sProp 𝕄) := by
  have e : (bigSep Finset.univ (fuel m d L fw fz hpre) : sProp 𝕄)
      = iprop(((bigSep Finset.univ fun r => wPt d L r fw) ∗ bigSep Finset.univ fun r => zPt d L r fz)
        ∗ bigSep Finset.univ fun t : Fin 64 => srcPt m d L hpre t) := by
    unfold fuel
    rw [bigSep_sep', bigSep_pairs (dstPre d L fw fz)]
    have e1 : (bigSep Finset.univ fun r => dstPre d L fw fz (evenOf r)) = (bigSep Finset.univ fun r => wPt d L r fw : sProp 𝕄) :=
      bigSep_congr fun r _ => by
        unfold dstPre; rw [if_pos (show (evenOf r).val % 2 = 0 by show 2 * r.val % 2 = 0; omega), rowI_even]
    have e2 : (bigSep Finset.univ fun r => dstPre d L fw fz (oddOf r)) = (bigSep Finset.univ fun r => zPt d L r fz : sProp 𝕄) :=
      bigSep_congr fun r _ => by
        unfold dstPre; rw [if_neg (show ¬ (oddOf r).val % 2 = 0 by show ¬ (2 * r.val + 1) % 2 = 0; omega), rowI_odd]
    rw [e1, e2]
  rw [e]
  unfold kept
  iintro ⟨Hp, Hw, Hz⟩
  ihave Hp := (src_split m d L hpre).1 $$ Hp
  ihave Hw := (w_rows d L fw).1 $$ Hw
  ihave Hz := (z_rows d L fz).1 $$ Hz
  icases Hp with ⟨Hs, Hsr⟩
  icases Hw with ⟨Hw, Hwr⟩
  icases Hz with ⟨Hz, Hzr⟩
  isplitl [Hs Hw Hz]
  · isplitl [Hw Hz]
    · isplitl [Hw] <;> iassumption
    · iexact Hs
  isplitl [Hwr]; · iexact Hwr
  isplitl [Hzr] <;> iassumption

/-- What the copies bring, put back: the two buffers with everything landed, the share of `pred`. -/
theorem deliv_join (hpre : PreOK m) :
    (iprop((bigSep Finset.univ (deliv m d L fw fz hpre)) ∗ kept m d L fw fz hpre) : sProp 𝕄)
      ⊢ iprop(pSh m d (wL L) ∗ ((wV).view.loc (thr d L) ↦{fullShare} landW m d L fw) ∗ (zV).view.loc (thr d L) ↦{fullShare} landZ m d L fz) := by
  have e : (bigSep Finset.univ (deliv m d L fw fz hpre) : sProp 𝕄)
      = iprop(((bigSep Finset.univ fun r => wPt d L r (landW m d L fw)) ∗ bigSep Finset.univ fun r => zPt d L r (landZ m d L fz))
        ∗ bigSep Finset.univ fun t : Fin 64 => srcPt m d L hpre t) := by
    unfold deliv
    rw [bigSep_sep', bigSep_pairs (dstPost m d L fw fz hpre)]
    have e1 : (bigSep Finset.univ fun r => dstPost m d L fw fz hpre (evenOf r)) = (bigSep Finset.univ fun r => wPt d L r (landW m d L fw) : sProp 𝕄) :=
      bigSep_congr fun r _ => by
        unfold dstPost; rw [if_pos (show (evenOf r).val % 2 = 0 by show 2 * r.val % 2 = 0; omega), rowI_even]; exact landed_w m d L fw hpre r
    have e2 : (bigSep Finset.univ fun r => dstPost m d L fw fz hpre (oddOf r)) = (bigSep Finset.univ fun r => zPt d L r (landZ m d L fz) : sProp 𝕄) :=
      bigSep_congr fun r _ => by
        unfold dstPost; rw [if_neg (show ¬ (oddOf r).val % 2 = 0 by show ¬ (2 * r.val + 1) % 2 = 0; omega), rowI_odd]; exact landed_z m d L fz hpre r
    rw [e1, e2]
  have ew : ((wV).view.loc (thr d L) ↦[wRest]{fullShare} fw : sProp 𝕄) = (wV).view.loc (thr d L) ↦[wRest]{fullShare} landW m d L fw :=
    pointsTo_congr fun i hi => by
      have hn : ¬ (i 1).val < 16 := fun h => (Finset.mem_sdiff.mp hi).2 (Finset.mem_biUnion.mpr ⟨i 0, Finset.mem_univ _, (mem_wRow (i 0) i).mpr ⟨rfl, h⟩⟩)
      unfold landW; rw [dif_neg hn]
  have ez : ((zV).view.loc (thr d L) ↦[zRest]{fullShare} fz : sProp 𝕄) = (zV).view.loc (thr d L) ↦[zRest]{fullShare} landZ m d L fz :=
    pointsTo_congr fun i hi => by
      have hn : ¬ (i 1).val < 16 := fun h => (Finset.mem_sdiff.mp hi).2 (Finset.mem_biUnion.mpr ⟨i 0, Finset.mem_univ _, (mem_zRow (i 0) i).mpr ⟨rfl, h⟩⟩)
      unfold landZ; rw [dif_neg hn]
  unfold kept
  rw [e, ew, ez]
  iintro ⟨⟨⟨Hw, Hz⟩, Hs⟩, Hwr, Hzr, Hsr⟩
  isplitl [Hs Hsr]
  · iapply (src_split m d L hpre).2
    isplitl [Hs] <;> iassumption
  isplitl [Hw Hwr]
  · iapply (w_rows d L (landW m d L fw)).2
    isplitl [Hw] <;> iassumption
  · iapply (z_rows d L (landZ m d L fz)).2
    isplitl [Hz] <;> iassumption

end Rows

end Cert.Proof.Sc

end
-- ==== Proof.TileA.lean ====
/-
  One tile's run: the gold words fetched, the sixty-four copies issued and waited for, the thirty-two rows added up, the
  sum sent to the tile's row.
-/
module

public import proofs.«01_k».proof.Proof.Join

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch pending)
open Idealize.ShloMosaic.ValueIdx (ix1 ix2 eq_ix1 eq_ix2)

variable {F : FTy → Type}

local notation "𝕄" => MT nD τ sig (HIx 1) (Elt F) ℕ UU ℕ

variable (m : (ℓ : Loc nD τ sig) → Buf (Elt F) ℓ)

section Tile

variable (d : Dev nD) (L : grid1.Coords)

/-! ## What a tile owns: its semaphores and its scratch -/

abbrev cA (d : Dev nD) (L : grid1.Coords) : GSem nD τ sig := (thr d L, .dma cc1_scratch4.sem)
abbrev cB (d : Dev nD) (L : grid1.Coords) : GSem nD τ sig := (thr d L, .dma cc1_scoped0.sem)
abbrev cC (d : Dev nD) (L : grid1.Coords) : GSem nD τ sig := (thr d L, .dma cc1_scoped1.sem)

theorem ownSems0_V :
    (ownSems0 (thr d L) : sProp 𝕄)
      = iprop(semVal (cA d L) 0 ∗ semVal (cB d L) 0 ∗ semVal (cC d L) 0
          ∗ bigSep ((((ownCells (thr d L)).erase (cA d L)).erase (cB d L)).erase (cC d L)) fun g => semVal g 0) := by
  unfold SparseCore.Cfg.ownSems0
  rw [SparseCore.bigSep_erase' ((mem_ownCells (g := cA d L)).mpr ⟨rfl, by
      show (SemLoc.dma cc1_scratch4.sem : SemLoc sig).isScoped .scVector = true; decide⟩),
    SparseCore.bigSep_erase' (Finset.mem_erase.mpr ⟨by simp [cA, cB]; decide, (mem_ownCells (g := cB d L)).mpr ⟨rfl, by
      show (SemLoc.dma cc1_scoped0.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d L)).mpr ⟨rfl, by show (SemLoc.dma cc1_scoped1.sem : SemLoc sig).isScoped .scVector = true; decide⟩⟩⟩)]

abbrev rB (L : grid1.Coords) : DevRef τ sig := (Proc.scVector (cV L) (jV L)).devRef cc1_scratch0
abbrev rW (L : grid1.Coords) : DevRef τ sig := (Proc.scVector (cV L) (jV L)).devRef cc1_scratch1
abbrev rZ (L : grid1.Coords) : DevRef τ sig := (Proc.scVector (cV L) (jV L)).devRef cc1_scratch2
abbrev rA (L : grid1.Coords) : DevRef τ sig := (Proc.scVector (cV L) (jV L)).devRef cc1_scratch3

theorem rne {a b : Ref sig .scVector} (h : a ≠ b) : (Proc.scVector (cV L) (jV L)).devRef a ≠ (Proc.scVector (cV L) (jV L)).devRef b :=
  fun e => absurd (Proc.devRef_injective _ e) h
theorem rmem (a : Ref sig .scVector) (h : ((Proc.scVector (cV L) (jV L)).devRef a : DevRef τ sig).owner = .proc (.scVector (cV L) (jV L))) :
    (Proc.scVector (cV L) (jV L)).devRef a ∈ ownRefs (τ := τ) (.scVector (cV L) (jV L)) :=
  SparseCore.Cfg.mem_ownRefs_of_owner (p := Proc.scVector (cV L) (jV L)) h

/-- The four scratch buffers are among the tile's own. -/
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ bigSep (((((ownRefs (τ := τ) (.scVector (cV L) (jV L))).erase (rB L)).erase (rW L)).erase (rZ L)).erase (rA L))
              fun b => iprop(∃ f, ((d, b) : Loc nD τ sig) ↦{fullShare} f)) := by
  unfold SparseCore.Cfg.ownBufs
  refine (SparseCore.bigSep_erase' (rmem L cc1_scratch0 rfl)).trans ?_
  rw [SparseCore.bigSep_erase' (Finset.mem_erase.mpr ⟨rne L (by decide), rmem L cc1_scratch1 rfl⟩),
    SparseCore.bigSep_erase' (Finset.mem_erase.mpr ⟨rne L (by decide), Finset.mem_erase.mpr ⟨rne L (by decide), rmem L cc1_scratch2 rfl⟩⟩),
    SparseCore.bigSep_erase' (Finset.mem_erase.mpr ⟨rne L (by decide), Finset.mem_erase.mpr ⟨rne L (by decide),
      Finset.mem_erase.mpr ⟨rne L (by decide), rmem L cc1_scratch3 rfl⟩⟩⟩)]

/-! ## The gold words -/

abbrev gSrc (L : grid1.Coords) : Memref sig .scVector .hbm S32 .i32 :=
  (gV).slice (Rect.unit (s := S1024) (k1_off1 L) S32.size (k1_off1_inb L)) (fun _ => rfl)

/-- The tile's thirty-two gold words. -/
def landG : Buf (Elt F) ((bV).view.loc (thr d L)) := fun (i : S32.Idx) => goldAt m d (rowOf (wL L) (i 0).val)

theorem gold_fetched (fb : Buf (Elt F) ((bV).view.loc (thr d L))) (pay : S32.Idx → Elt F .i32)
    (hpay : pay = ReadAs.same.apply ((gSrc L).view.read (Elt F) (m (gLoc d)))) :
    (bV).view.write (Elt F) fb pay Finset.univ = landG m d L := by
  subst hpay
  refine (View.write_whole_univ _ _ _).trans ?_
  funext i
  rw [ReadAs.apply_same, View.read_apply]
  refine (cast_eq _ _).trans ?_
  show m (gLoc d) _ = m (gLoc d) _
  refine congrArg (m (gLoc d)) ?_
  funext a
  match a with
  | 0 =>
    apply Fin.ext
    have h1 : (L 1).val < 16 := (L 1).isLt
    have h0 : (L 0).val < 2 := (L 0).isLt
    have hi : (i 0).val < 32 := (i 0).isLt
    show k1_off1 L 0 + 1 * (i 0).val = (32 * (2 * (L 1).val + (L 0).val) + (i 0).val) % 1024
    rw [k1_off1_eq]
    show 64 * (L 1).val + 32 * (L 0).val + 1 * (i 0).val = _
    omega

/-- The scratch that holds the gold words, after the fetch. -/
theorem gold_pts (fb : Buf (Elt F) ((bV).view.loc (thr d L))) (pay : S32.Idx → Elt F .i32)
    (hpay : pay = ReadAs.same.apply ((gSrc L).view.read (Elt F) (m (gLoc d)))) :
    ((bV).view.loc (thr d L) ↦{fullShare} (bV).view.write (Elt F) fb pay Finset.univ : sProp 𝕄)
      ⊢ (bV).view.loc (thr d L) ↦{fullShare} landG m d L :=
  Entails.of_eq (by rw [gold_fetched m d L fb pay hpay])

/-- The row of partial sums, as the tile addresses it. -/
abbrev orowK (L : grid1.Coords) : Rect S32x16 := Rect.unit (s := S32x16) (k1_off97 L) S1x16.size (k1_off97_inb L)
abbrev oRowK (L : grid1.Coords) : Memref sig .scVector .hbm S16 .f32 :=
  ((oV).slice (orowK L) (fun _ => rfl)).squeeze S16 squeezes_S1x16_S16

theorem orowK_eq : orowK L = orow (wL L) := by
  unfold orowK orow Rect.part Rect.block
  congr 1 <;> funext a
  · rw [k1_off97_eq]
    match a with
    | 0 => simp [Shape.partIx, Shape.partSize, wL, wid]
    | 1 => simp [Shape.partIx, Shape.partSize]
  · match a with
    | 0 => simp [Shape.partSize]
    | 1 => simp [Shape.partSize]

theorem set_oRowK : (oRowK L).view.set = oRowSet (wL L) := by
  show (((oV).view.slice (orowK L)).reshape S16 squeezes_S1x16_S16.numel_eq).set = ((oV).view.slice (orow (wL L))).set
  rw [View.set_reshape]
  exact orowK_eq L ▸ rfl

theorem pts_oRowK (f : Buf (Elt F) (oLoc d)) :
    ((oRowK L).view.loc (thr d L) ↦[(oRowK L).view.set]{fullShare} f : sProp 𝕄) = oRow d (wL L) f := by
  rw [set_oRowK]

/-- The checked columns are in range. -/
theorem chk_ok (hpre : PreOK m) (r : ℕ) (v : BitVec 32) (hr : r < 32) (hv : v = IntOp.andi (goldAt m d (rowOf (wL L) r)) 4294967280#32) :
    (16 ∣ v.toNat) ∧ (∀ a, corner L (BitVec.ofNat 32 r) v a + S1x16.size a ≤ S1024x100000.size a)
      ∧ (∀ a, corner L (BitVec.ofNat 32 r) v a + S1x16.size a ≤ S1024x100000.size a) := by
  subst hv
  have h := andi_window _ (hpre d (ix1 (rowOf (wL L) r)))
  have hc : ∀ a, corner L (BitVec.ofNat 32 r) (IntOp.andi (goldAt m d (rowOf (wL L) r)) 4294967280#32) a + S1x16.size a ≤ S1024x100000.size a := by
    rw [corner_eq L r hr]
    intro a
    match a with
    | 0 => exact (rowOf (wL L) r).isLt
    | 1 => exact h.2
  exact ⟨h.1, hc, hc⟩

/-- The same of the last row, whose offsets are checked once. -/
theorem chk_ok_last (hpre : PreOK m) (r : ℕ) (v : BitVec 32) (hr : r < 32) (hv : v = IntOp.andi (goldAt m d (rowOf (wL L) r)) 4294967280#32) :
    (16 ∣ v.toNat) ∧ (∀ a, corner L (BitVec.ofNat 32 r) v a + S1x16.size a ≤ S1024x100000.size a) :=
  ⟨(chk_ok m d L hpre r v hr hv).1, (chk_ok m d L hpre r v hr hv).2.1⟩

variable [FloatOps F] [Named F]

end Tile

end Cert.Proof.Sc

end
-- ==== Proof.Waits.lean ====
/-
  The sixty-four waits of one tile, all on one semaphore: the first sixty-three bring nothing back, the last brings
  every copy's delivery. And the cut of a body at one of its printed parts.
-/
module

public import proofs.«01_k».proof.Proof.Join

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch pending)
open Idealize.ShloMosaic.ValueIdx (ix1 ix2 eq_ix1 eq_ix2)

variable {F : FTy → Type}

local notation "𝕄" => MT nD τ sig (HIx 1) (Elt F) ℕ UU ℕ

variable (m : (ℓ : Loc nD τ sig) → Buf (Elt F) ℓ)

section Waits

variable (d : Dev nD) (L : grid1.Coords)
variable (fw : Buf (Elt F) ((wV).view.loc (thr d L))) (fz : Buf (Elt F) ((zV).view.loc (thr d L)))

/-- The tile with every copy issued and `u` of them waited for. -/
def Wt (hpre : PreOK m) (u : ℕ) : sProp 𝕄 :=
  Batch (countersEmb (U := UU)) (thr d L) (.dma cc1_scratch4.sem) (default : HIx 1) N (deliv m d L fw fz hpre) 64 (u * N)

/-- What the tile owes, with waits recorded at no call beside those it came with. -/
def Ow (O : CellTallies nD τ sig (HIx 1)) (W : Waits sig (HIx 1)) : sProp 𝕄 :=
  iprop(∃ W', ⌜∀ p ∈ W', p ∈ W ∨ p.2 = none⌝ ∗ owes (thr d L) O W')

theorem Ow_intro (O : CellTallies nD τ sig (HIx 1)) (W : Waits sig (HIx 1)) (s : SemLoc sig) :
    (owes (thr d L) O (insert (s, none) W) : sProp 𝕄) ⊢ Ow d L O W := by
  unfold Ow
  iintro HO
  iexists _; isplitr
  swap; · iexact HO
  ipureintro; intro p hp
  rcases Finset.mem_insert.mp hp with hp | hp
  · exact .inr (hp ▸ rfl)
  · exact .inl hp

/-- With the last copy issued, the waits begin. -/
theorem wait_start (hpre : PreOK m) (k : ℕ) (hk : k = 64) : (St m d L fw fz hpre k : sProp 𝕄) ⊢ Wt m d L fw fz hpre 0 := by
  subst hk
  unfold St Wt
  rw [Nat.zero_mul]
  iintro ⟨HB, -⟩
  iexact HB

variable [FloatOps F] [Named F]

/-- A wait that is not the last. -/
theorem wait_step (hpre : PreOK m) (O : CellTallies nD τ sig (HIx 1)) (W : Waits sig (HIx 1)) (u : ℕ) (hu : u < 63)
    {sp' : Space} {s' : Shape} {e' : EltTy} {srcw : Memref sig (thr d L).2.kind sp' s' e'} {sp : Space} {s : Shape} {e : EltTy}
    {dstw : Memref sig .scVector sp s e} {hs : srcw.view.WordExact} {hd : dstw.view.WordExact} (hN : dstw.view.dmaCredit = N)
    {α : Type} {kk : PUnit.{1} → Prog (TpuEff nD τ sig (Elt F) Λ₀ (thr d L).2) α} {Q : α → sProp 𝕄} :
    Transfers.MayWaits (thr d L) (default : HIx 1) O
      ⊢ iprop(Wt m d L fw fz hpre u -∗ Ow d L O W
        -∗ (Wt m d L fw fz hpre (u + 1) -∗ Ow d L O W -∗ wp frame (wpE (defs₀ (F := F)) 𝒱₀ (thr d L) none) Set.univ (kk ⟨⟩) Q)
        -∗ wp frame (wpE (defs₀ (F := F)) 𝒱₀ (thr d L) none) Set.univ (.op (.waitDma2 cc1_scratch4.sem srcw dstw hs hd) kk) Q) := by
  unfold Wt Ow
  have hN0 : 0 < N := by decide
  iintro #Hmw HB ⟨%W', %hW', HO⟩ Hk
  iapply (Transfers.wp_waitBatchO (countersEmb (U := UU)) 𝒱₀ (thr d L) none (default : HIx 1) hN
    (D := deliv m d L fw fz hpre) (u := u * N) (by nlinarith)) $$ [HB HO]
  · isplitl [HB]; · iexact HB
    isplitl [HO]; · iexact HO
    iapply (Transfers.MayWaits.elim (SemLoc.dma cc1_scratch4.sem)) $$ Hmw
  iintro ⟨HB, HO⟩
  rw [Nat.add_mul, Nat.one_mul]
  iapply Hk $$ HB
  iexists _; isplitr
  swap; · iexact HO
  ipureintro; intro p hp
  rcases Finset.mem_insert.mp hp with hp | hp
  · exact .inr (hp ▸ rfl)
  · exact hW' p hp

/-- The last wait. -/
theorem wait_last (hpre : PreOK m) (O : CellTallies nD τ sig (HIx 1)) (W : Waits sig (HIx 1)) (u : ℕ) (hu : u = 63)
    {sp' : Space} {s' : Shape} {e' : EltTy} {srcw : Memref sig (thr d L).2.kind sp' s' e'} {sp : Space} {s : Shape} {e : EltTy}
    {dstw : Memref sig .scVector sp s e} {hs : srcw.view.WordExact} {hd : dstw.view.WordExact} (hN : dstw.view.dmaCredit = N)
    {α : Type} {kk : PUnit.{1} → Prog (TpuEff nD τ sig (Elt F) Λ₀ (thr d L).2) α} {Q : α → sProp 𝕄} :
    Transfers.MayWaits (thr d L) (default : HIx 1) O
      ⊢ iprop(Wt m d L fw fz hpre u -∗ Ow d L O W -∗ kept m d L fw fz hpre
        -∗ (iprop(semVal (thr d L, .dma cc1_scratch4.sem) 0 ∗ (∃ W', ⌜∀ p ∈ W', p ∈ W ∨ p.2 = none⌝ ∗ owes (thr d L) O W') ∗ pSh m d (wL L)
              ∗ ((wV).view.loc (thr d L) ↦{fullShare} landW m d L fw) ∗ (zV).view.loc (thr d L) ↦{fullShare} landZ m d L fz)
            -∗ wp frame (wpE (defs₀ (F := F)) 𝒱₀ (thr d L) none) Set.univ (kk ⟨⟩) Q)
        -∗ wp frame (wpE (defs₀ (F := F)) 𝒱₀ (thr d L) none) Set.univ (.op (.waitDma2 cc1_scratch4.sem srcw dstw hs hd) kk) Q) := by
  subst hu
  unfold Wt Ow
  have hN0 : 0 < N := by decide
  iintro #Hmw HB ⟨%W', %hW', HO⟩ Hkept Hk
  iapply (Transfers.wp_waitBatchLastO (countersEmb (U := UU)) 𝒱₀ (thr d L) none (default : HIx 1) hN hN0
    (D := deliv m d L fw fz hpre) (u := 63 * N) (by omega)) $$ [HB HO]
  · isplitl [HB]; · iexact HB
    isplitl [HO]; · iexact HO
    iapply (Transfers.MayWaits.elim (SemLoc.dma cc1_scratch4.sem)) $$ Hmw
  iintro ⟨HD, Hsem, HO⟩
  ihave Hj := (deliv_join m d L fw fz hpre) $$ [HD Hkept]
  · isplitl [HD] <;> iassumption
  iapply Hk
  isplitl [Hsem]; · iexact Hsem
  isplitl [HO]
  · iexists _; isplitr
    swap; · iexact HO
    ipureintro; intro p hp
    rcases Finset.mem_insert.mp hp with hp | hp
    · exact .inr (hp ▸ rfl)
    · exact hW' p hp
  iexact Hj

/-- A body cut at a part: what follows the part is a postcondition, whatever it is. -/
theorem part_cut {α β : Type} {p : Prog (TpuEff nD τ sig (Elt F) Λ₀ (thr d L).2) α}
    {k : α → Prog (TpuEff nD τ sig (Elt F) Λ₀ (thr d L).2) β} {Q : β → sProp 𝕄} {X : sProp 𝕄}
    (h : ∀ Q' : α → sProp 𝕄, (∀ x, Q' x = wp frame (wpE (defs₀ (F := F)) 𝒱₀ (thr d L) none) Set.univ (k x) Q) →
      Entails' X (wp frame (wpE (defs₀ (F := F)) 𝒱₀ (thr d L) none) Set.univ p Q')) :
    Entails' X (wp frame (wpE (defs₀ (F := F)) 𝒱₀ (thr d L) none) Set.univ (p >>= k) Q) := by
  rw [wp_bind]
  exact h _ fun _ => rfl

/-- At a part's return, what follows it. -/
theorem part_end {α β : Type} {k : α → Prog (TpuEff nD τ sig (Elt F) Λ₀ (thr d L).2) β} {Q : β → sProp 𝕄} {X : sProp 𝕄}
    {Q' : α → sProp 𝕄} (hQ : ∀ x, Q' x = wp frame (wpE (defs₀ (F := F)) 𝒱₀ (thr d L) none) Set.univ (k x) Q) (a : α)
    (h : Entails' X (wp frame (wpE (defs₀ (F := F)) 𝒱₀ (thr d L) none) Set.univ (k a) Q)) :
    Entails' X (wp frame (wpE (defs₀ (F := F)) 𝒱₀ (thr d L) none) Set.univ (.ret a) Q') := by
  rw [wp_ret, hQ]
  exact BIBase.Entails.trans h BI.fupd_intro

end Waits

end Cert.Proof.Sc

end
-- ==== Proof.Rows.lean ====
/-
  What the tile's loads read once every copy has landed: a row's two windows, sixteen gold words.
-/
module

public import proofs.«01_k».proof.Proof.TileA

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch pending)
open Idealize.ShloMosaic.ValueIdx (ix1 ix2 eq_ix1 eq_ix2)

variable {F : FTy → Type}

local notation "𝕄" => MT nD τ sig (HIx 1) (Elt F) ℕ UU ℕ

variable (m : (ℓ : Loc nD τ sig) → Buf (Elt F) ℓ)

section Rows

variable (d : Dev nD) (L : grid1.Coords)
variable (fw : Buf (Elt F) ((wV).view.loc (thr d L))) (fz : Buf (Elt F) ((zV).view.loc (thr d L)))

/-- A vector of sixteen lanes as one row. -/
def row1 (v : FVec F S16 .f32) : FVec F S1x16 .f32 := fun i => v (ix1 (i 1 : Fin 16))

theorem cast_row1 (v : FVec F S16 .f32) (h) : shapeCast S16 (row1 v) h = v := by
  funext l
  have e : shapeCast S16 (row1 v) h l = row1 v (Shape.reshapeEquiv squeezes_S1x16_S16.numel_eq l) := rfl
  rw [e, lane_ix]
  exact congrArg v (eq_ix1 l).symm

theorem read_w (r : ℕ) (hr : r < 32) (inb : ∀ a, (![r, 0] : Fin 2 → ℕ) a + (![1, 16] : Fin 2 → ℕ) a ≤ S32x128.size a) :
    View.readAt (Elt F) (View.whole cc1_scratch1) (Rect.unit (s := S32x128) ![r, 0] ![1, 16] inb).toLoadRect (landW m d L fw) = row1 (win6 m d (wL L) r) := by
  funext i
  have h1 : ((Rect.unit (s := S32x128) ![r, 0] S1x16.size inb).emb i 1).val = (i 1).val := by
    show 0 + 1 * (i 1).val = (i 1).val; omega
  have h0 : ((Rect.unit (s := S32x128) ![r, 0] S1x16.size inb).emb i 0).val = r := by
    show r + 1 * (i 0).val = r
    have : (i 0).val < 1 := (i 0).isLt
    omega
  have hi : (i 1).val < 16 := (i 1).isLt
  show landW m d L fw ((Rect.unit (s := S32x128) ![r, 0] S1x16.size inb).emb i) = _
  unfold landW row1
  rw [dif_pos (by rw [h1]; exact hi), h0]
  exact congrArg _ (congrArg ix1 (Fin.ext h1))

theorem read_z (r : ℕ) (hr : r < 32) (inb : ∀ a, (![r, 0] : Fin 2 → ℕ) a + (![1, 16] : Fin 2 → ℕ) a ≤ S32x128.size a) :
    View.readAt (Elt F) (View.whole cc1_scratch2) (Rect.unit (s := S32x128) ![r, 0] ![1, 16] inb).toLoadRect (landZ m d L fz) = row1 (win7 m d (wL L) r) := by
  funext i
  have h1 : ((Rect.unit (s := S32x128) ![r, 0] S1x16.size inb).emb i 1).val = (i 1).val := by
    show 0 + 1 * (i 1).val = (i 1).val; omega
  have h0 : ((Rect.unit (s := S32x128) ![r, 0] S1x16.size inb).emb i 0).val = r := by
    show r + 1 * (i 0).val = r
    have : (i 0).val < 1 := (i 0).isLt
    omega
  have hi : (i 1).val < 16 := (i 1).isLt
  show landZ m d L fz ((Rect.unit (s := S32x128) ![r, 0] S1x16.size inb).emb i) = _
  unfold landZ row1
  rw [dif_pos (by rw [h1]; exact hi), h0]
  exact congrArg _ (congrArg ix1 (Fin.ext h1))

/-- Sixteen gold words of the tile, from word `b`. -/
def gold16 (b : ℕ) : IVec S16 32 := fun l => goldAt m d (rowOf (wL L) (b + (l 0).val))

theorem read_g (b : ℕ) (inb : ∀ a, (![b] : Fin 1 → ℕ) a + (![16] : Fin 1 → ℕ) a ≤ S32.size a) :
    View.readAt (Elt F) (View.whole cc1_scratch0) (Rect.unit (s := S32) ![b] ![16] inb).toLoadRect (landG m d L) = gold16 m d L b := by
  funext i
  show goldAt m d (rowOf (wL L) (b + 1 * (i 0).val)) = _
  rw [Nat.one_mul]; rfl

/-- The one store into the accumulator's buffer fills it. -/
theorem read_acc (fa : Buf (Elt F) ((aV).view.loc (thr d L))) (inb : ∀ a, (![0] : Fin 1 → ℕ) a + S16.size a ≤ S16.size a)
    (v : FVec F S16 .f32) (Ls) :
    ReadAs.same.apply ((aV).view.read (Elt F) ((aV).view.writes (Elt F) fa (⟨Rect.unit (s := S16) ![0] S16.size inb, v⟩ :: Ls))) = v := by
  rw [ReadAs.apply_same]
  funext i
  have e : (Rect.unit (s := S16) ![0] S16.size inb).emb i = i := by
    funext a
    match a with
    | 0 => exact Fin.ext (by show 0 + 1 * (i 0).val = (i 0).val; omega)
  have h := View.read_writes_cons_emb (v := (aV).view) (f := fa) (Rect.unit (s := S16) ![0] S16.size inb) v Ls i
  rw [e] at h
  exact h

end Rows

end Cert.Proof.Sc

end
-- ==== Proof.Tail.lean ====
/-
  The end of a tile's run: its row of partial sums holds the sum of its rows.
-/
module

public import proofs.«01_k».proof.Proof.Rows
public import Idealize.ShloMosaic.Lib.Pipeline.Value

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch pending)
open Idealize.ShloMosaic.ValueIdx (ix1 ix2 eq_ix1 eq_ix2)

variable {F : FTy → Type}

local notation "𝕄" => MT nD τ sig (HIx 1) (Elt F) ℕ UU ℕ

variable (m : (ℓ : Loc nD τ sig) → Buf (Elt F) ℓ)

section Tail

variable (d : Dev nD) (L : grid1.Coords)

/-- A lane cut out of sixteen words. -/
theorem ext_lane (k : ℕ) (hk : k < 16) (v : IVec S16 32) (h) (h') :
    extractAt ![0] (extractStridedSlice S1 ![k] v h) h' = v (ix1 ⟨k, hk⟩) := by
  show v _ = v _
  congr 1
  funext a
  match a with
  | 0 => rfl

theorem emb_oRow (l : S16.Idx) : (oRowK L).view.emb l = (ix2 (wL L) (l 0 : Fin 16) : S32x16.Idx) := by
  show (orowK L).emb (Shape.reshapeEquiv squeezes_S1x16_S16.numel_eq l) = _
  rw [lane_ix]
  funext a
  match a with
  | 0 =>
    refine Fin.ext ?_
    show k1_off97 L 0 + 1 * 0 = 2 * (L 1).val + (L 0).val
    rw [k1_off97_eq]
    rfl
  | 1 => exact Fin.ext (by show k1_off97 L 1 + 1 * (l 0).val = (l 0).val; rw [k1_off97_eq]; show 0 + 1 * (l 0).val = _; omega)

variable [FloatOps F] [Named F]

/-- The tile's row of partial sums, once its sum has been copied there. -/
theorem row_out (fo : Buf (Elt F) (oLoc d)) (v : S16.Idx → Elt F .f32) (hv : v = tileSum m d (wL L)) :
    ((oRowK L).view.loc (thr d L) ↦[(oRowK L).view.set]{fullShare} (oRowK L).view.writes (Elt F) fo [⟨Rect.whole S16, v⟩] : sProp 𝕄)
      ⊢ oRow d (wL L) (sumsArr m d) := by
  subst hv
  rw [← pts_oRowK d L (sumsArr m d)]
  refine Entails.of_eq (pointsTo_congr fun i hi => ?_)
  obtain ⟨l, -, rfl⟩ := Finset.mem_map.mp hi
  have h := congrFun (View.read_writes_whole (Val := Elt F) (oRowK L).view fo (tileSum m d (wL L))) l
  rw [View.read_apply] at h
  refine ((cast_eq _ _).symm.trans h).trans ?_
  show _ = sumsArr m d ((oRowK L).view.emb l)
  rw [emb_oRow]
  exact congrArg (tileSum m d (wL L)) (eq_ix1 l)

/-- What the tile holds at its end, as its obligation asks for it. -/
theorem tile_post (O : CellTallies nD τ sig (HIx 1)) (W W' : Waits sig (HIx 1)) (hW' : ∀ p ∈ W', p ∈ W ∨ p.2 = none)
    (fb : Buf (Elt F) ((bV).view.loc (thr d L))) (fw : Buf (Elt F) ((wV).view.loc (thr d L)))
    (fz : Buf (Elt F) ((zV).view.loc (thr d L))) (fa : Buf (Elt F) ((aV).view.loc (thr d L)))
    (fo : Buf (Elt F) (oLoc d)) (v : S16.Idx → Elt F .f32) (hv : v = tileSum m d (wL L)) (X Y : sProp 𝕄) :
    iprop((X ∗ Y)
      ∗ ((gV).view.loc (thr d L) ↦[Finset.univ \ (gSrc L).view.set]{tq (wL L)} m (gLoc d))
      ∗ ((gV).view.loc (thr d L) ↦[(gSrc L).view.set]{tq (wL L)} m (gLoc d))
      ∗ (semVal (cB d L) 0 ∗ semVal (cA d L) 0 ∗ semVal (cC d L) 0)
      ∗ ((bV).view.loc (thr d L) ↦{fullShare} fb) ∗ pSh m d (wL L)
      ∗ ((wV).view.loc (thr d L) ↦{fullShare} fw) ∗ ((zV).view.loc (thr d L) ↦{fullShare} fz)
      ∗ ((oRowK L).view.loc (thr d L) ↦[(oRowK L).view.set]{fullShare} (oRowK L).view.writes (Elt F) fo [⟨Rect.whole S16, v⟩])
      ∗ ((aV).view.loc (thr d L) ↦{fullShare} fa)
      ∗ owes (thr d L) O (insert (SemLoc.dma cc1_scoped1.sem, (default : HIx 1)) W'))
    ⊢ iprop(tdP m d (wL L)
        ∗ ((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f) ∗ X)
        ∗ (semVal (cA d L) 0 ∗ semVal (cB d L) 0 ∗ semVal (cC d L) 0 ∗ Y)
        ∗ ∃ W', ⌜∀ p ∈ W', p ∈ W ∨ p.2 = none⌝ ∗ owes (thr d L) O W') := by
  unfold tdP
  iintro ⟨⟨HX, HY⟩, Hg', Hgs, ⟨HsB, HsA, HsC⟩, Hb, Hp, Hw, Hz, Ho, Ha, HO⟩
  ihave Hg := (pointsTo_split_subset (q := tq (wL L)) (f := m (gLoc d)) (S := Finset.univ) (Finset.subset_univ (gSrc L).view.set)).2 $$ [Hgs Hg']
  · isplitl [Hgs] <;> iassumption
  ihave Ho' := (row_out m d L fo v hv) $$ Ho
  isplitl [Hp Hg Ho']
  · isplitl [Hp]; · iexact Hp
    isplitl [Hg]; · iexact Hg
    iexact Ho'
  isplitl [Hb Hw Hz Ha HX]
  · isplitl [Hb]; · iexists _; iexact Hb
    isplitl [Hw]; · iexists _; iexact Hw
    isplitl [Hz]; · iexists _; iexact Hz
    isplitl [Ha]; · iexists _; iexact Ha
    iexact HX
  isplitl [HsA HsB HsC HY]
  · isplitl [HsA]; · iexact HsA
    isplitl [HsB]; · iexact HsB
    isplitl [HsC]; · iexact HsC
    iexact HY
  iexists _; isplitr
  swap; · iexact HO
  ipureintro; intro p hp
  rcases Finset.mem_insert.mp hp with hp | hp; · exact .inr (hp ▸ rfl)
  exact hW' p hp

end Tail

end Cert.Proof.Sc

end
-- ==== Proof.Tile.lean ====
/-
  One tile's run: the gold words fetched, the sixty-four copies issued and waited for, the thirty-two rows added up, the
  sum sent to the tile's row.
-/
module

public import proofs.«01_k».proof.Proof.TileA
public import proofs.«01_k».proof.Proof.Waits
public import proofs.«01_k».proof.Proof.Tail
public import Idealize.ShloMosaic.Lib.Tactic.Stretches

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch pending)
open Idealize.ShloMosaic.ValueIdx (ix1 ix2 eq_ix1 eq_ix2)

variable {F : FTy → Type}

local notation "𝕄" => MT nD τ sig (HIx 1) (Elt F) ℕ UU ℕ

variable (m : (ℓ : Loc nD τ sig) → Buf (Elt F) ℓ)

section Tile

variable (d : Dev nD) (L : grid1.Coords)
variable [FloatOps F] [Named F]

attribute [local irreducible] Idealize.SL.Sem.wp

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goP m d (wL L)
        ∗ scopedBufs (thr d L) ∗ scopedSems0 (thr d L) ∗ owes (thr d L) O W)
      ⊢ wp frame (wpE (defs₀ (F := F)) 𝒱₀ (thr d L) none) Set.univ
          (cc1__sc_gather_body L pV (Memref.isWhole_whole _) gV (Memref.isWhole_whole _) oV (Memref.isWhole_whole _)
            bV (Memref.isWhole_whole _) wV (Memref.isWhole_whole _) zV (Memref.isWhole_whole _) aV (Memref.isWhole_whole _)
            cc1_scratch4 cc1_scoped0 cc1_scoped1)
          fun _ => iprop(tdP m d (wL L)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold goP
  iintro ⟨#Hlv, -, ⟨Hp, Hg, ⟨%fo, Ho⟩⟩, ⟨⟨%fb, Hb⟩, ⟨%fw, Hw⟩, ⟨%fz, Hz⟩, ⟨%fa, Ha⟩, Hbufs⟩, ⟨HsA, HsB, HsC, Hsems⟩, HO⟩
  ihave Hfk := (fuel_split m d L fw fz hpre) $$ [Hp Hw Hz]
  · isplitl [Hp]; · iexact Hp
    isplitl [Hw] <;> iassumption
  icases Hfk with ⟨Hf, Hkept⟩
  ihave Hg' := (show gSh m d (wL L) ⊢ (gV).view.loc (thr d L) ↦{tq (wL L)} m (gLoc d) from .rfl) $$ Hg
  ihave Hb' := (show ((thr d L).loc cc1_scratch0 ↦{fullShare} fb : sProp 𝕄) ⊢ (bV).view.loc (thr d L) ↦{fullShare} fb from .rfl) $$ Hb
  ihave Ha' := (show ((thr d L).loc cc1_scratch3 ↦{fullShare} fa : sProp 𝕄) ⊢ (aV).view.loc (thr d L) ↦{fullShare} fa from .rfl) $$ Ha
  iapply (fupd_wp frame (wpE (defs₀ (F := F)) 𝒱₀ (thr d L) none) Set.univ _ _)
  imod (Transfers.batch_alloc' (countersEmb (U := UU)) (thr d L) (default : HIx 1) N (deliv m d L fw fz hpre) (sm := .dma cc1_scratch4.sem) (E := Set.univ)) $$ HsA with HB
  imodintro
  ihave Hst := (show iprop(Batch (countersEmb (U := UU)) (thr d L) (.dma cc1_scratch4.sem) (default : HIx 1) N (deliv m d L fw fz hpre) 0 0
      ∗ bigSep Finset.univ (fuel m d L fw fz hpre)) ⊢ St m d L fw fz hpre 0 from by unfold St; rw [Transfers.bigSep_pending_zero]) $$ [HB Hf]
  · isplitl [HB] <;> iassumption
  rw [cc1__sc_gather_body_eq_skeleton]; unfold cc1__sc_gather_body_skel
  ihave Ho' := (Entails.of_eq (pts_oRowK (F := F) d L _).symm) $$ Ho
  refine part_cut d L ?_
  intro Q' hQ
  sl_exec
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (default : HIx 1) (rfl : (bV).view.dmaCredit = _)) $$ [HsB HO]
  · isplitl [HsB]; · iexact HsB
    isplitl [HO]; · iexact HO
    iapply (Transfers.MayWaits.elim (SemLoc.dma cc1_scoped0.sem)) $$ Hmw
  iintro ⟨⟨Hb', Hgs⟩, HsB, HO⟩
  ihave Hb' := (gold_pts m d L fb (tile_body.sl.dma0 m d L) rfl) $$ Hb'
  ihave HO := (Ow_intro d L O W _) $$ HO
  sl_exec
  repeat (first
    | ((iapply (issue_chk d L (chk_ok m d L hpre _ _ ?_ ?_)) <;> first | omega | exact Eq.refl _ | skip); sl_exec)
    | ((iapply (issue_w m d L fw fz hpre _ _ ?_ ?_ ?_) $$ Hst <;> first | iintro Hst | omega | exact Eq.refl _); sl_exec)
    | ((iapply (issue_z m d L fw fz hpre _ _ ?_ ?_ ?_) $$ Hst <;> first | iintro Hst | omega | exact Eq.refl _); sl_exec)
    | ((iapply (issue_chk d L (chk_ok_last m d L hpre _ _ ?_ ?_)) <;> first | omega | exact Eq.refl _ | skip); sl_exec)
    | ((iapply (wait_step m d L fw fz hpre O W _ ?_ ?_) $$ Hmw Hwt HO <;> first | iintro Hwt HO | omega | exact Eq.refl _); sl_exec)
    | ((iapply (wait_last m d L fw fz hpre O W _ ?_ ?_) $$ Hmw Hwt HO Hkept <;> first | iintro ⟨HsA, ⟨%W', %hW', HO⟩, Hp, Hw, Hz⟩ | omega | exact Eq.refl _); sl_exec)
    | (refine part_end d L ‹_› _ ?_; refine part_cut d L ?_; clear hQ Q'; intro Q' hQ; sl_exec)
    | (ihave Hwt := (wait_start m d L fw fz hpre _ ?_) $$ Hst; omega))
  have hval : tile_body.sl.dma4 m d L fw fz fa = tileSum m d (wL L) := by
    sl_open_run
    rw [read_acc]
    simp (discharger := omega) only [read_w, read_z, read_g]
    sl_open_pay
    simp (discharger := omega) only [cast_row1, Idealize.ShloMosaic.shapeCast_self, ext_lane]
    unfold tileSum
    simp only [accN, rowStep]
    rfl
  refine part_end d L hQ _ ?_
  rw [show (Pure.pure PUnit.unit : Prog (TpuEff nD τ sig (Elt F) Λ₀ (thr d L).2) PUnit) = Prog.ret PUnit.unit from rfl, wp_ret]
  iapply BI.fupd_intro
  iapply (tile_post m d L O W W' hW' _ _ _ _ fo _ hval _ _)
  isplitl [Hbufs Hsems]
  · isplitl [Hbufs] <;> iassumption
  isplitl [Hg']; · iexact Hg'
  isplitl [Hgs]; · iexact Hgs
  isplitl [HsA HsB HsC]
  · isplitl [HsB]; · iexact HsB
    isplitl [HsA]; · iexact HsA
    iexact HsC
  isplitl [Hb']; · iexact Hb'
  isplitl [Hp]; · iexact Hp
  isplitl [Hw]; · iexact Hw
  isplitl [Hz]; · iexact Hz
  isplitl [Ho']; · iexact Ho'
  isplitl [Ha']; · iexact Ha'
  iexact HO

end Tile

end Cert.Proof.Sc

end
-- ==== Proof.Oblig.lean ====
/-
  The gather kernel's obligation to its call: every tile's task is the kernel at that tile's coordinates, and a
  SparseCore's operands are its sixteen tiles' operands.
-/
module

public import proofs.«01_k».proof.Proof.Tile

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F] [Named F]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_gather_body (coordsV c s)
          pV (Memref.isWhole_whole _) gV (Memref.isWhole_whole _) oV (Memref.isWhole_whole _)
          bV (Memref.isWhole_whole _) wV (Memref.isWhole_whole _) zV (Memref.isWhole_whole _) aV (Memref.isWhole_whole _)
          cc1_scratch4 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

attribute [local irreducible] Idealize.SL.Sem.wp

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => goP m d (wid c s)) ⊢ |={Set.univ}=> iprop(
      (bigSep Finset.univ fun i : Fin ((K (F := F)).nSub 0) => goP m d (wid c (Fin.cast nSub_zero i)))
      ∗ ((bigSep Finset.univ fun i : Fin ((K (F := F)).nSub 0) => tdP m d (wid c (Fin.cast nSub_zero i)))
          -∗ bigSep Finset.univ fun s : Fin 16 => tdP m d (wid c s)))
  rw [bigSep_tasks (F := F) (fun i => goP m d (wid c i)), bigSep_tasks (F := F) (fun i => tdP m d (wid c i))]
  iintro H; imodintro
  isplitl [H]; · iexact H
  iintro H; iexact H

end Cert.Proof.Sc

end
-- ==== Proof.Main.lean ====
/-
  @main on a device's TensorCore: the scalars, the dense region, the gather call on the tiles, the result.
-/
module

public import proofs.«01_k».proof.Proof.Deal
public import proofs.«01_k».proof.Proof.Oblig

@[expose] public section

noncomputable section

namespace Cert.Proof.Sc

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type}

local notation "𝕄" => MT nD τ sig (HIx 1) (Elt F) ℕ UU ℕ

variable (m : (ℓ : Loc nD τ sig) → Buf (Elt F) ℓ) (ρ : Dev nD → PrngReg)

/-! ## The buffers, opened at the four arrays the kernels touch -/

def rest : Finset (DevRef τ sig) :=
  (((bufs.erase (Proc.devRef .tc main_arg0)).erase (Proc.devRef .tc main_arg1)).erase (Proc.devRef .tc main_v9)).erase (Proc.devRef .tc main_v10)

theorem bufs_eq : bufs = insert (Proc.devRef .tc main_arg0) (insert (Proc.devRef .tc main_arg1) (insert (Proc.devRef .tc main_v9)
    (insert (Proc.devRef .tc main_v10) rest))) := by decide

theorem unscoped_held (d : Dev nD) :
    (unscopedBufs d (fun b => m ((SparseCore.T d).loc b)) : sProp 𝕄) = held (SparseCore.T d) bufs (Vin m d) := by
  unfold unscopedBufs held bufs StableHlo.tcRefs
  rw [Finset.filter_map, BI.bigSep_map]
  rfl

theorem held_open (d : Dev nD) (W : Valuation τ sig (Elt F)) :
    (held (SparseCore.T d) bufs W : sProp 𝕄) = iprop((pLoc d ↦{fullShare} W (Proc.devRef .tc main_arg0)) ∗ (gLoc d ↦{fullShare} W (Proc.devRef .tc main_arg1))
      ∗ (sLoc d ↦{fullShare} W (Proc.devRef .tc main_v9)) ∗ (oLoc d ↦{fullShare} W (Proc.devRef .tc main_v10)) ∗ held (SparseCore.T d) rest W) := by
  unfold held
  rw [bufs_eq, SparseCore.bigSep_insert' (by decide), SparseCore.bigSep_insert' (by decide), SparseCore.bigSep_insert' (by decide),
    SparseCore.bigSep_insert' (by decide)]

theorem rest_ne {b : DevRef τ sig} (h : b ∈ rest) : b ≠ Proc.devRef .tc main_v9 ∧ b ≠ Proc.devRef .tc main_v10 := by
  unfold rest at h
  rw [Finset.mem_erase, Finset.mem_erase] at h
  exact ⟨h.2.1, h.1⟩

variable [FloatOps F] [Named F]

/-- The buffers after the scalars, opened. -/
theorem held_scalars (d : Dev nD) : (held (d.tc : Thread nD τ) bufs (after opsA (Vin m d)) : sProp 𝕄)
    ⊢ iprop((pLoc d ↦{fullShare} m (pLoc d)) ∗ (gLoc d ↦{fullShare} m (gLoc d))
      ∗ (sLoc d ↦{fullShare} Vsc m d (Proc.devRef .tc main_v9)) ∗ (oLoc d ↦{fullShare} Vsc m d (Proc.devRef .tc main_v10))
      ∗ held (SparseCore.T d) rest (Vsc m d)) := by
  have h := held_open d (Vsc m d)
  rw [Vsc_arg0, Vsc_arg1] at h
  exact Entails.of_eq h

/-- The buffers after the two kernels, closed again. -/
theorem held_kernels (d : Dev nD) : (iprop((pLoc d ↦{fullShare} m (pLoc d)) ∗ (gLoc d ↦{fullShare} m (gLoc d))
      ∗ (sLoc d ↦{fullShare} sumArr m d) ∗ (oLoc d ↦{fullShare} sumsArr m d) ∗ held (SparseCore.T d) rest (Vsc m d)) : sProp 𝕄)
    ⊢ held (d.tc : Thread nD τ) bufs (Vk m d) := by
  have h := held_open d (Vk m d)
  rw [Vk_v9, Vk_v10, Vk_of_ne m d (by decide) (by decide), Vk_of_ne m d (by decide) (by decide), Vsc_arg0, Vsc_arg1,
      StableHlo.held_congr (SparseCore.T d) fun b hb => Vk_of_ne m d (rest_ne hb).1 (rest_ne hb).2] at h
  exact Entails.of_eq h.symm

/-! ## The ghost state of the dense region's copies -/

abbrev pinned : Fin 1 → Pipeline.Cfg sig Λ₀ := Pipeline.pin (pcfgs (F := F)) adm

/-- What the launch deals a device for its dense region. -/
abbrev G (d : Dev nD) : sProp 𝕄 :=
  iprop(Pipeline.cellsGhost (pinned (F := F)) EP 0 d ∗ Pipeline.toksInit (pinned (F := F)) EP 0 d)

/-- What @main ends with: every buffer, at its final contents. -/
abbrev FIN (d : Dev nD) : sProp 𝕄 := held (SparseCore.T d) bufs (Vout m d)

theorem held_out (d : Dev nD) : (held (d.tc : Thread nD τ) bufs (after opsB (Vk m d)) : sProp 𝕄) ⊢ FIN m d := BI.Entails.refl _

theorem inj : Function.Injective (Pipeline.cellOf (nD := nD) (τ := τ) (pinned (F := F))) := cellOf_inj

attribute [local irreducible] Idealize.SL.Sem.wp

/-- The dense region, as @main of the whole program calls it. -/
theorem wp_region [∀ e, Nonempty (Elt F e)] (f9 : (d : Dev nD) → Buf (Elt F) (sLoc d)) (d : Dev nD) (Q : PUnit → sProp 𝕄) :
    iprop((iprop(boundary (SparseCore.T d) ∗ regPts m d (sumArr m d)) -∗ Q ⟨⟩)
        ∗ boundary (SparseCore.T d) ∗ regPts m d (f9 d) ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  refine BI.Entails.trans ?_ ((K (F := F)).wp_liftProg (D (F := F)) 𝒱 (SparseCore.T d) Set.univ none (.op (.customCall (Pipeline.entry 0) ()) .ret) Q)
  refine BI.Entails.trans ?_ (Pipeline.RegionSeg.wp (pcfgs (F := F)) adm (pdats m f9) (none : HIx 1) inj EP defs₀ Variants.none
    (K (F := F)).L (K (F := F)).lev (reg m f9) d none (fun u hu => nomatch hu) .ret Q)
  show (iprop((iprop(boundary (SparseCore.T d) ∗ regPts m d (sumArr m d)) -∗ Q ⟨⟩)
        ∗ boundary (SparseCore.T d) ∗ regPts m d (f9 d) ∗ levAts (K (F := F)).L (K (F := F)).lev ∗ G (F := F) d) : sProp 𝕄)
    ⊢ (iprop((iprop(boundary (SparseCore.T d) ∗ regPts m d (sumArr m d))
          -∗ wp frame (wpE (D (F := F)) 𝒱 (SparseCore.T d) none) Set.univ (Prog.ret PUnit.unit) Q)
        ∗ boundary (SparseCore.T d) ∗ regPts m d (f9 d) ∗ levAts (K (F := F)).L (K (F := F)).lev
        ∗ Pipeline.cellsGhost (pinned (F := F)) EP 0 d ∗ Pipeline.toksInit (pinned (F := F)) EP 0 d) : sProp 𝕄)
  iintro ⟨Hk, Hb, Hp, Hl, Hc, Ht⟩
  isplitl [Hk]
  · iintro H
    rw [wp_ret]; imodintro
    iapply Hk; iexact H
  isplitl [Hb]; · iexact Hb
  isplitl [Hp]; · iexact Hp
  isplitl [Hl]; · iexact Hl
  isplitl [Hc]; · iexact Hc
  iexact Ht

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hbufs, Hts, -⟩, HG⟩
  iapply (StableHlo.wp_seq (defs := (K (F := F)).defs (D (F := F))) 𝒱 none Set.univ d bufs _ opsA opsA_sub opsA_fresh (Vin m d)) $$ [Hb Hbufs]
  · isplitl [Hb] <;> iassumption
  iintro ⟨Hb, Hbufs⟩
  ihave Hbufs := (held_scalars m d) $$ Hbufs
  icases Hbufs with ⟨Hp, Hg, H9, H10, Hrest⟩
  -- the dense region, from two read shares of `pred`, the sum's array, and the debt of start signals
  ihave Hlev := (SparseCore.Cfg.ctx_levAts (K := K (F := F)) (P := P m) κ) $$ Hctx
  unfold SparseCore.Cfg.tcSt
  icases Hst with ⟨Howes, Hst⟩
  ihave Hp := (two_shares (pLoc d) (m (pLoc d))).1 $$ Hp
  icases Hp with ⟨Hp, Hp0, Hp1⟩
  rw [wp_bind]
  iapply (wp_region m (fun d => Vsc m d (Proc.devRef .tc main_v9)) d _)
  isplitr [Hb Hp0 Hp1 H9 Howes Hlev HG]
  swap
  · isplitl [Hb]; · iexact Hb
    isplitl [Hp0 Hp1 H9 Howes]
    · isplitl [Hp0]; · iexact Hp0
      isplitl [Hp1]; · iexact Hp1
      isplitl [H9]; · iexact H9
      iexact Howes
    isplitl [Hlev]; · iexact Hlev
    iexact HG
  iintro ⟨Hb, ⟨Hp0, Hp1, H9, Howes⟩⟩
  ihave Hp := (two_shares (pLoc d) (m (pLoc d))).2 $$ [Hp Hp0 Hp1]
  · isplitl [Hp]; · iexact Hp
    isplitl [Hp0] <;> iassumption
  -- the gather call
  ihave Hd := (deal m d _) $$ [Hp Hg H10]
  · isplitl [Hp]; · iexact Hp
    isplitl [Hg]; · iexact Hg
    iexact H10
  icases Hd with ⟨Hgo, Hp, Hg⟩
  rw [wp_bind]
  iapply ((K (F := F)).wp_run (D (F := F)) 𝒱 (EH := EH) (P := P m) κ d 0)
  isplitr; · iexact Hctx
  isplitl [Howes Hst]
  · unfold SparseCore.Cfg.tcSt
    isplitl [Howes]; · iexact Howes
    iexact Hst
  isplitl [Hgo]; · iexact Hgo
  iintro ⟨Hst, Hdn⟩
  ihave Hu := (undeal m d) $$ [Hdn Hp Hg]
  · isplitl [Hdn]; · iexact Hdn
    isplitl [Hp]; · iexact Hp
    iexact Hg
  icases Hu with ⟨Hp, Hg, H10⟩
  -- the result
  rw [← bind_pure (StableHlo.seq opsB)]
  iapply (StableHlo.wp_seq (defs := (K (F := F)).defs (D (F := F))) 𝒱 none Set.univ d bufs _ opsB opsB_sub opsB_fresh (Vk m d)) $$ [Hb Hp Hg H9 H10 Hrest]
  · isplitl [Hb]; · iexact Hb
    iapply (held_kernels m d)
    isplitl [Hp]; · iexact Hp
    isplitl [Hg]; · iexact Hg
    isplitl [H9]; · iexact H9
    isplitl [H10]; · iexact H10
    iexact Hrest
  iintro ⟨Hb, Hbufs⟩
  rw [wp_pure]; imodintro
  isplitl [Hst]; · unfold SparseCore.Cfg.tcSt; iexact Hst
  isplitl [Hbufs]; · iapply (held_out m d); iexact Hbufs
  isplitl [Hb] <;> iassumption

end Cert.Proof.Sc

end
-- ==== Proof.Run.lean ====
/-
  The whole program's run: from a launch memory whose gold words are columns, every execution ends with the result at its
  value, the arguments as they were and every semaphore at zero.
-/
module

public import proofs.«01_k».proof.Proof.Main
public import Idealize.ShloMosaic.Lib.SparseCore.Quiescent

@[expose] public section

noncomputable section

namespace Cert.Proof.Sc

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type}

local notation "𝕄" => MT nD τ sig (HIx 1) (Elt F) ℕ UU ℕ

variable (m : (ℓ : Loc nD τ sig) → Buf (Elt F) ℓ) (ρ : Dev nD → PrngReg)

variable [FloatOps F] [Named F]

/-! ## The launch element -/

/-- The launch element of the pipeline's rounds. -/
def uP : UP := initOf (Pipeline.cells (pinned (F := F)) inj) (Pipeline.launchToks (pinned (F := F)) inj)

def u₀ : UU := (initOf (K (F := F)).hsCells (K (F := F)).hsToks, (uP (F := F), 1))

theorem ghost : (BI.own (EP (F := F) (uP (F := F))) : sProp 𝕄) ⊢ |==> (bigSep Finset.univ fun d : Dev nD => G (F := F) d) := by
  have h := Pipeline.fund_ghost (Ix := HIx 1) (Name := ℕ) (U := UU) (Lvl := ℕ) (Val := Elt F) (pinned (F := F)) EP inj
  have e1 : (bigSep Finset.univ fun c : Dev nD => bigSep Finset.univ fun p : Fin 1 => (Pipeline.cellsGhost (pinned (F := F)) EP p c : sProp 𝕄))
      = bigSep Finset.univ fun c : Dev nD => Pipeline.cellsGhost (pinned (F := F)) EP 0 c :=
    bigSep_congr fun c _ => bigSep_univ_of_subsingleton (0 : Fin 1)
  have e2 : (bigSep Finset.univ fun c : Dev nD => bigSep Finset.univ fun p : Fin 1 => (Pipeline.toksInit (pinned (F := F)) EP p c : sProp 𝕄))
      = bigSep Finset.univ fun c : Dev nD => Pipeline.toksInit (pinned (F := F)) EP 0 c :=
    bigSep_congr fun c _ => bigSep_univ_of_subsingleton (0 : Fin 1)
  rw [e1, e2, ← bigSep_sep'] at h
  exact h

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) ((uP (F := F), 1) : UP × Counters)) $$ Hu
  icases H with ⟨HH, HR⟩
  ihave HR := (own_pair_emb (embR : Emb (UP × Counters) 𝕄) (uP (F := F)) (1 : Counters)) $$ HR
  icases HR with ⟨HP, -⟩
  ihave HP := (show (BI.own (((Emb.inl : Emb UP (UP × Counters)).trans (embR : Emb (UP × Counters) 𝕄)) (uP (F := F))) : sProp 𝕄)
    ⊢ |==> (bigSep Finset.univ fun d : Dev nD => G (F := F) d) from ghost) $$ HP
  imod HP with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The final state -/

/-- What the final memory of a device is known to hold. -/
def fq (d : Dev nD) (s' : Phys nD τ sig (Elt F)) : Prop :=
  s'.mem.mem ((SparseCore.T d).loc main_v16) = outVal m d ∧ s'.mem.mem (pLoc d) = m (pLoc d) ∧ s'.mem.mem (gLoc d) = m (gLoc d)

theorem FIN_at (d : Dev nD) (b : Ref sig .tc) (hb : (Proc.devRef .tc b : DevRef τ sig) ∈ bufs) (s' : Phys nD τ sig (Elt F)) :
    iprop(FIN m d ∗ SI s') ⊢ (⌜s'.mem.mem ((SparseCore.T d).loc b) = Vout m d (Proc.devRef .tc b)⌝ : sProp 𝕄) := by
  have h : (FIN m d : sProp 𝕄) ⊢ ((SparseCore.T d).loc b) ↦{fullShare} Vout m d (Proc.devRef .tc b) := bigSep_elim hb
  iintro ⟨HF, HSI⟩
  ihave HF := h $$ HF
  ihave H := (SI_pointsTo_agree (st := s') (ℓ := (SparseCore.T d).loc b) (I := Finset.univ) (q := fullShare) (f := Vout m d (Proc.devRef .tc b))) $$ [HSI HF]
  · isplitl [HSI] <;> iassumption
  icases H with %h2
  ipureintro; exact funext fun i => h2 i (Finset.mem_univ i)

theorem hfin (d : Dev nD) (s' : Phys nD τ sig (Elt F)) : iprop(FIN m d ∗ SI s') ⊢ (⌜fq m d s'⌝ : sProp 𝕄) := by
  have h1 := FIN_at m d main_v16 (by decide) s'
  have h2 := FIN_at m d main_arg0 (by decide) s'
  have h3 := FIN_at m d main_arg1 (by decide) s'
  rw [Vout_v16] at h1
  rw [Vout_arg0] at h2
  rw [Vout_arg1] at h3
  iintro H
  ihave H := (persistent_entails_right h1) $$ H
  icases H with ⟨%e1, H⟩
  ihave H := (persistent_entails_right h2) $$ H
  icases H with ⟨%e2, H⟩
  ihave H := h3 $$ H
  icases H with %e3
  ipureintro; exact ⟨e1, e2, e3⟩

/-! ## The run -/

def QC : PUnit × MemSt nD τ sig (Elt F) → Prop := fun r => (∀ d : Dev nD,
  r.2.mem ((SparseCore.T d).loc main_v16) = outVal m d ∧ r.2.mem (pLoc d) = m (pLoc d) ∧ r.2.mem (gLoc d) = m (gLoc d)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof.Sc

end
-- ==== Proof.Same.lean ====
/-
  The program as printed is the idealized program read over the machine's floats, each named constant at its own bits.
-/
module

public import proofs.«01_k».proof.Proof.Gen.Kernel
public import proofs.«01_k».proof.Proof.Gen.KernelIdeal
public import Idealize.ShloMosaic.PureOps.BitExact
public import Idealize.ShloMosaic.PureOps.Ideal

@[expose] public section

noncomputable section

namespace Cert.Proof.Sc

open Idealize.ShloMosaic

/-- A named constant, over the machine's floats, is the constant of its bits. -/
@[instance_reducible] def bitsNamed : Named Bits := ⟨fun _ _ φ b => FloatOps.ofBits φ b⟩

attribute [local instance] bitsNamed Cert.Kernel.Gen.facts Cert.KernelIdeal.Gen.facts

/-- The dense kernel's body names no constant. -/
theorem dense_same : Cert.Kernel.cc0__dense_kernel (F := Bits) = Cert.KernelIdeal.cc0__dense_kernel (F := Bits) := rfl

set_option maxHeartbeats 0 in
set_option maxRecDepth 65536 in
/-- The gather kernel's body, each named constant read as its bits. -/
theorem gather_same : Cert.Kernel.cc1__sc_gather_body (F := Bits) = Cert.KernelIdeal.cc1__sc_gather_body (F := Bits) := rfl

/-- The two tables of kernel bodies, label by label and processor by processor. -/
theorem defs₀_same : Cert.Kernel.defs₀ (F := Bits) = Cert.KernelIdeal.defs₀ (F := Bits) := by
  funext p l a
  match p, l, a with
  | .tc, 0, (t, s) => unfold Cert.Kernel.defs₀ Cert.KernelIdeal.defs₀; dsimp only; rw [dense_same]; rfl
  | .tc, 1, _ => rfl
  | .scScalar _, 0, _ => rfl
  | .scScalar _, 1, _ => rfl
  | .scVector _ _, 0, _ => rfl
  | .scVector c s, 1, _ => unfold Cert.Kernel.defs₀ Cert.KernelIdeal.defs₀; dsimp only; rw [gather_same]; rfl

/-- The two body tables are one table. -/
theorem defs_same : Cert.Kernel.defs (F := Bits) = Cert.KernelIdeal.defs (F := Bits) := by
  unfold Cert.Kernel.defs Cert.KernelIdeal.defs; rw [defs₀_same]; rfl

set_option maxHeartbeats 0 in
set_option maxRecDepth 65536 in
/-- The two programs' threads are the same. -/
theorem threads_same : Cert.Kernel.threads (F := Bits) = Cert.KernelIdeal.threads (F := Bits) := rfl

end Cert.Proof.Sc

end
-- ==== Proof.Frames.lean ====
/-
  The frame claims: both kernels' and the reference's, and the statement of the named constants.
-/
module

public import proofs.«01_k».proof.Defs
public import proofs.«01_k».proof.Proof.Pre
public import proofs.«01_k».proof.Proof.Run
public import proofs.«01_k».proof.Proof.Same
public import proofs.«01_k».proof.Proof.Gen.ReferenceIdeal.Run

@[expose] public section

noncomputable section

namespace Cert.Proof.Sc

open Idealize.ShloMosaic Idealize.SL.Sem

attribute [local instance] bitsNamed Cert.Kernel.Gen.facts Cert.KernelIdeal.Gen.facts Cert.ReferenceIdeal.Gen.facts Cert.Pre_drawn.Gen.facts
  Cert.Pre_drawn_finite.Gen.facts

/-- The idealized program's frame. -/
theorem frame_ideal : Cert.quiescent_KernelIdeal := fun m ρ hp =>
  (θ_run Cert.KernelIdeal.defs _ _).mono (fun _ h => ⟨fun c => (h.1 c).2, h.2⟩)
    (run_main m ρ (fun d => drawn_lt _ _ (hp d)))

/-- The idealized program's frame, for finite predictions. -/
theorem frame_ideal_finite : Cert.quiescent_KernelIdeal_pre_drawn_finite := fun m ρ hp =>
  (θ_run Cert.KernelIdeal.defs _ _).mono (fun _ h => ⟨fun c => (h.1 c).2, h.2⟩)
    (run_main m ρ (fun d => drawn_finite_lt _ _ (hp d)))

/-- The program's frame: the idealized program's, over the machine's floats. -/
theorem frame_bits : Cert.quiescent_Kernel := by
  intro m ρ hp
  rw [defs_same, threads_same]
  exact (θ_run (Cert.KernelIdeal.defs (F := Bits)) _ _).mono (fun _ h => ⟨fun c => (h.1 c).2, h.2⟩)
    (run_main (F := Bits) m ρ (fun d => drawn_lt _ _ (hp d)))

/-- The reference's run, with its counters: it declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The reference's frame, for finite predictions. -/
theorem frame_ref_finite : Cert.quiescent_ReferenceIdeal_pre_drawn_finite := fun m ρ _ =>
  (θ_run Cert.ReferenceIdeal.defs _ _).mono (fun r h => ⟨fun c => (h c).2, sem_eq_zero_of_no_sems (by decide) r.2⟩)
    (Cert.ReferenceIdeal.Value.run m ρ)

/-- The three named constants: what the words stand for, and that the words are what ran. -/
theorem named : Cert.preserves_Kernel_KernelIdeal :=
  ⟨IdealRules.named_const.statement _ _ _ _ _ rfl, IdealRules.named_const.statement _ _ _ _ _ rfl,
    IdealRules.named_const.statement _ _ _ _ _ rfl⟩

end Cert.Proof.Sc

end
-- ==== Proof.Algebra.lean ====
/-
  The equation over the reals. A row of the reference sums `p · (log p − x)` over the columns of positive probability `p`:
  the confidence at the gold column, nothing at column 0, the smoothing value elsewhere. The kernel takes every column as
  an ordinary one and corrects at column 0 and at the gold column.
-/
module

public import Mathlib.Analysis.SpecialFunctions.Log.Basic
public import Mathlib.Data.EReal.Operations
public import Mathlib.Algebra.BigOperators.Fin

@[expose] public section

noncomputable section

namespace Cert.Proof.Sc

open scoped BigOperators

/-- The smoothing value and the confidence. -/
def sR : ℝ := 1 / 999980
def cR : ℝ := 9 / 10

/-- The probability of column `j` where the gold column is `g`. -/
def prob (g j : Fin 100000) : ℝ := if j = g then cR else if j = 0 then 0 else sR

/-- One element of the reference. -/
def refTerm (p x : ℝ) : ℝ := if 0 < p then p * (Real.log p - x) else 0

/-- The host's constant of a row. -/
def k1R : ℝ := 99998 * sR * Real.log sR + cR * Real.log cR

/-- The correction of a row: column 0 and the gold column. -/
def corr (g : Fin 100000) (x : Fin 100000 → ℝ) : ℝ :=
  sR * x 0 + (sR - cR) * x g + if g = 0 then sR * Real.log sR - sR * x 0 else 0

theorem sR_pos : 0 < sR := by unfold sR; norm_num
theorem cR_pos : 0 < cR := by unfold cR; norm_num

/-- An element of the reference: the ordinary column's, and what column 0 and the gold column change. -/
theorem term_split (g j : Fin 100000) (x : Fin 100000 → ℝ) :
    refTerm (prob g j) (x j) = (sR * Real.log sR - sR * x j) - (if j = 0 then sR * Real.log sR - sR * x 0 else 0)
      + (if j = g then cR * Real.log cR - cR * x g - (sR * Real.log sR - sR * x g) + (if g = 0 then sR * Real.log sR - sR * x 0 else 0) else 0) := by
  unfold refTerm prob
  by_cases hg : j = g
  · subst hg
    rw [if_pos rfl, if_pos cR_pos, if_pos rfl]
    by_cases h0 : j = 0
    · subst h0; simp only [if_true]; ring
    · simp only [if_neg h0]; ring
  · rw [if_neg hg, if_neg hg]
    by_cases h0 : j = 0
    · subst h0; simp
    · rw [if_neg h0, if_pos sR_pos, if_neg h0]; ring

/-- A row of the reference is the kernel's: the constant, less the weighted sum of the row, and the correction. -/
theorem row_eq (g : Fin 100000) (x : Fin 100000 → ℝ) :
    ∑ j, refTerm (prob g j) (x j) = k1R - sR * (∑ j, x j) + corr g x := by
  rw [Finset.sum_congr rfl fun j _ => term_split g j x, Finset.sum_add_distrib, Finset.sum_sub_distrib, Finset.sum_sub_distrib,
    Finset.sum_ite_eq' Finset.univ (0 : Fin 100000), Finset.sum_ite_eq' Finset.univ g, if_pos (Finset.mem_univ _), if_pos (Finset.mem_univ _),
    Finset.sum_const, Finset.card_univ, Fintype.card_fin, ← Finset.mul_sum, nsmul_eq_mul]
  unfold k1R corr
  push_cast
  ring

/-- The whole: 1024 rows. -/
theorem total_eq (g : Fin 1024 → Fin 100000) (x : Fin 1024 → Fin 100000 → ℝ) :
    ∑ r, ∑ j, refTerm (prob (g r) j) (x r j) = 1024 * k1R - sR * (∑ r, ∑ j, x r j) + ∑ r, corr (g r) (x r) := by
  rw [Finset.sum_congr rfl fun r _ => row_eq (g r) (x r), Finset.sum_add_distrib, Finset.sum_sub_distrib, Finset.sum_const,
    Finset.card_univ, Fintype.card_fin, ← Finset.mul_sum, nsmul_eq_mul]
  push_cast
  ring

/-- A sum over 1024 rows is a sum over 32 groups of 32 rows, in any additive commutative monoid. -/
theorem sum_groups {M : Type} [AddCommMonoid M] (f : Fin 1024 → M) :
    ∑ w : Fin 32, ∑ r : Fin 32, f ⟨32 * w.val + r.val, by omega⟩ = ∑ i, f i := by
  rw [← Fintype.sum_prod_type', ← (finProdFinEquiv (m := 32) (n := 32)).sum_comp]
  refine Finset.sum_congr rfl fun p _ => congrArg f (Fin.ext ?_)
  show 32 * p.1.val + p.2.val = p.2.val + 32 * p.1.val
  omega

/-- A sum of real numbers is the sum of them as extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Proof.Sc

end
-- ==== Proof.Consts.lean ====
/-
  The constants of both programs at the ideal values: the float words that are exact, the smoothing value and the
  confidence as the programs compute them, and the three named constants.
-/
module

public import proofs.«01_k».proof.Proof.Algebra
public import proofs.«01_k».proof.KernelIdeal
public import Idealize.ShloMosaic.Lib.IdealHost

@[expose] public section

noncomputable section

namespace Cert.Proof.Sc

open Idealize.ShloMosaic Idealize.ShloMosaic.ValueIdx

theorem ofBits_ten : Ideal.ofBits .f32 0x41200000#32 = ((10 : ℝ) : EReal) := by
  simp [Ideal.ofBits, Ideal.ieee, -EReal.coe_mul]; norm_num

theorem ofBits_99998 : Ideal.ofBits .f32 0x47C34F00#32 = ((99998 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

/-- One tenth. -/
theorem tenth_eq : Ideal.div (Ideal.ofBits .f32 0x3F800000#32) (Ideal.ofBits .f32 0x41200000#32) = ((1 / 10 : ℝ) : EReal) := by
  rw [ofBits_ten, Ideal.div_coe (by norm_num), Ideal.ofBits_one_f32, one_mul]

/-- The confidence. -/
theorem conf_eq : Ideal.ofBits .f32 0x3F800000#32 - ((1 / 10 : ℝ) : EReal) = (cR : EReal) := by
  rw [Ideal.ofBits_one_f32, ← EReal.coe_one, ← EReal.coe_sub]; unfold cR; norm_num

/-- The smoothing value. -/
theorem smooth_eq : Ideal.div ((1 / 10 : ℝ) : EReal) (Ideal.ofBits .f32 0x47C34F00#32) = (sR : EReal) := by
  rw [ofBits_99998, Ideal.div_coe (by norm_num), ← EReal.coe_mul]; unfold sR; norm_num

/-- The logarithm of a positive real number. -/
theorem log_pos {r : ℝ} (h : 0 < r) : Ideal.log (r : EReal) = ((Real.log r : ℝ) : EReal) := by
  rw [Ideal.log_coe, if_neg (not_le.2 h)]

/-- The named constants. -/
theorem named_s (b : BitVec 32) : (Named.named (F := Ideal) Cert.KernelIdeal.κ "s" (φ := .f32) b) = (sR : EReal) := rfl

theorem named_s_log_s (b : BitVec 32) :
    (Named.named (F := Ideal) Cert.KernelIdeal.κ "s_log_s" (φ := .f32) b) = ((sR * Real.log sR : ℝ) : EReal) := rfl

theorem named_s_sub_conf (b : BitVec 32) : (Named.named (F := Ideal) Cert.KernelIdeal.κ "s_sub_conf" (φ := .f32) b) = ((sR - cR : ℝ) : EReal) := by
  show ((-899981 / 999980 : ℝ) : EReal) = _
  unfold sR cR; norm_num

end Cert.Proof.Sc

end
-- ==== Proof.KernelSum.lean ====
/-
  What the tiles' partial sums add up to at the ideal values: the corrections of the 1024 rows.
-/
module

public import proofs.«01_k».proof.Proof.Consts
public import proofs.«01_k».proof.Proof.Windows
public import Idealize.ShloMosaic.Lib.WordCmp
public import Idealize.ShloMosaic.Lib.IdealHost

@[expose] public section

noncomputable section

namespace Cert.Proof.Sc

open Cert.KernelIdeal Cert.KernelIdeal.Gen
open Idealize.ShloMosaic Idealize.ShloMosaic.ValueIdx
open scoped BigOperators

/-! ## One row at one lane -/

theorem andi_low (g : BitVec 32) : (IntOp.andi g 15#32).toNat = g.toNat % 16 := by
  unfold IntOp.andi
  rw [BitVec.toNat_and]
  exact Nat.and_two_pow_sub_one_eq_mod g.toNat 4

/-- What a row adds at a lane, from its gold column, its gathered element and its first element. -/
def laneR (g : ℕ) (l : Fin 16) (b a : ℝ) : ℝ :=
  sR * (a * if l = 0 then 1 else 0) + (sR - cR) * (if l.val = g % 16 then b else 0)
    + (if g = 0 then 1 else 0) * (sR * Real.log sR * (if l = 0 then 1 else 0) - sR * (a * if l = 0 then 1 else 0))

/-- The lane of a real number chosen on a test. -/
theorem select_coe (p : Prop) [Decidable p] (a b : ℝ) :
    Scalar.select (BitVec.ofBool (decide p)) (a : EReal) (b : EReal) = ((if p then a else b : ℝ) : EReal) := by
  rw [WordCmp.select_decide]
  split <;> rfl

theorem lane_eq (l : Fin 16) (x : BitVec 32) (n : ℕ) (hx : x.toNat = n) (hn : n < 2 ^ 32) :
    IntOp.cmpi .eq (BitVec.ofNat 32 l.val) x = BitVec.ofBool (decide (l.val = n)) := by
  rw [WordCmp.cmpi_eq_eq_toNat, BitVec.toNat_ofNat, hx]
  have : l.val % 2 ^ 32 = l.val := Nat.mod_eq_of_lt (by have := l.isLt; omega)
  rw [this]

theorem rowStep_apply (g : BitVec 32) (w6 w7 acc : FVec Ideal S16 .f32) (l : Fin 16) (a b c : ℝ) (h6 : l.val = g.toNat % 16 → w6 (ix1 l) = (b : EReal))
    (h7 : w7 (ix1 l) = (a : EReal)) (hc : acc (ix1 l) = (c : EReal)) :
    rowStep g w6 w7 acc (ix1 l) = ((c + laneR g.toNat l b a : ℝ) : EReal) := by
  have z : (Ideal.ofBits .f32 0x00000000#32 : EReal) = ((0 : ℝ) : EReal) := by rw [Ideal.ofBits_zero_f32, EReal.coe_zero]
  have o : (Ideal.ofBits .f32 0x3F800000#32 : EReal) = ((1 : ℝ) : EReal) := by rw [Ideal.ofBits_one_f32, EReal.coe_one]
  have hm : Scalar.select (IntOp.cmpi .eq (BitVec.ofNat 32 l.val) 0#32) (Ideal.ofBits .f32 0x3F800000#32) (Ideal.ofBits .f32 0x00000000#32)
      = ((if l = 0 then 1 else 0 : ℝ) : EReal) := by
    rw [lane_eq l 0#32 0 rfl (by norm_num), z, o, select_coe, if_congr (show l.val = 0 ↔ l = 0 from ⟨fun h => Fin.ext h, fun h => congrArg Fin.val h⟩) rfl rfl]
  have hp : Scalar.select (IntOp.cmpi .eq (BitVec.ofNat 32 l.val) (IntOp.andi g 15#32)) (w6 (ix1 l)) (Ideal.ofBits .f32 0x00000000#32)
      = ((if l.val = g.toNat % 16 then b else 0 : ℝ) : EReal) := by
    rw [lane_eq l _ _ (andi_low g) (by omega), z, WordCmp.select_decide]
    by_cases h : l.val = g.toNat % 16
    · rw [if_pos h, if_pos h, h6 h]
    · rw [if_neg h, if_neg h]
  have hz : Scalar.select (IntOp.cmpi .eq g 0#32) (Ideal.ofBits .f32 0x3F800000#32) (Ideal.ofBits .f32 0x00000000#32)
      = ((if g.toNat = 0 then 1 else 0 : ℝ) : EReal) := by
    rw [WordCmp.cmpi_eq_eq_toNat, z, o, select_coe]
    rfl
  show (acc (ix1 l) + (sR : EReal) * (w7 (ix1 l) * Scalar.select (IntOp.cmpi .eq (BitVec.ofNat 32 (0 * 16 + l.val)) 0#32) (Ideal.ofBits .f32 0x3F800000#32) (Ideal.ofBits .f32 0x00000000#32)))
      + Named.named (F := Ideal) κ "s_sub_conf" (φ := .f32) 0xBF666656#32
        * Scalar.select (IntOp.cmpi .eq (BitVec.ofNat 32 (0 * 16 + l.val)) (IntOp.andi g 15#32)) (w6 (ix1 l)) (Ideal.ofBits .f32 0x00000000#32)
      + Scalar.select (IntOp.cmpi .eq g 0#32) (Ideal.ofBits .f32 0x3F800000#32) (Ideal.ofBits .f32 0x00000000#32)
        * (Named.named (F := Ideal) κ "s_log_s" (φ := .f32) 0xB767CA44#32
            * Scalar.select (IntOp.cmpi .eq (BitVec.ofNat 32 (0 * 16 + l.val)) 0#32) (Ideal.ofBits .f32 0x3F800000#32) (Ideal.ofBits .f32 0x00000000#32)
          - (sR : EReal) * (w7 (ix1 l) * Scalar.select (IntOp.cmpi .eq (BitVec.ofNat 32 (0 * 16 + l.val)) 0#32) (Ideal.ofBits .f32 0x3F800000#32) (Ideal.ofBits .f32 0x00000000#32))) = _
  rw [Nat.zero_mul, Nat.zero_add, hm, hp, hz, h7, hc, named_s_log_s, named_s_sub_conf]
  simp only [← EReal.coe_mul, ← EReal.coe_add, ← EReal.coe_sub]
  congr 1
  unfold laneR
  ring

/-- The accumulator after `n` rows, at a lane. -/
theorem accN_apply (g : ℕ → BitVec 32) (w6 w7 : ℕ → FVec Ideal S16 .f32) (l : Fin 16) (a b : ℕ → ℝ)
    (h6 : ∀ r, l.val = (g r).toNat % 16 → w6 r (ix1 l) = (b r : EReal)) (h7 : ∀ r, w7 r (ix1 l) = (a r : EReal)) (n : ℕ) :
    accN g w6 w7 n (ix1 l) = ((∑ r : Fin n, laneR (g r).toNat l (b r) (a r) : ℝ) : EReal) := by
  induction n with
  | zero =>
    show Ideal.ofBits .f32 0x00000000#32 = _
    rw [Ideal.ofBits_zero_f32]
    simp
  | succ n ih =>
    rw [Fin.sum_univ_castSucc]
    exact rowStep_apply _ _ _ _ l _ _ _ (h6 n) (h7 n) ih

/-- The sixteen lanes of a row add up to the row's correction. -/
theorem lanes_eq (g : Fin 100000) (x : Fin 100000 → ℝ) :
    ∑ l : Fin 16, laneR g.val l (x g) (x ⟨l.val, by omega⟩) = corr g x := by
  have e0 : ∀ l : Fin 16, (x ⟨l.val, by omega⟩ * if l = 0 then 1 else 0 : ℝ) = if l = 0 then x 0 else 0 := fun l => by
    by_cases h : l = 0
    · subst h; rw [if_pos rfl, if_pos rfl, mul_one]; rfl
    · rw [if_neg h, if_neg h, mul_zero]
  have eg : ∀ l : Fin 16, (if l.val = g.val % 16 then x g else 0 : ℝ) = if l = ⟨g.val % 16, Nat.mod_lt _ (by norm_num)⟩ then x g else 0 :=
    fun l => if_congr ⟨fun h => Fin.ext h, fun h => congrArg Fin.val h⟩ rfl rfl
  unfold laneR corr
  simp only [e0, eg]
  rw [Finset.sum_add_distrib, Finset.sum_add_distrib, ← Finset.mul_sum, ← Finset.mul_sum, ← Finset.mul_sum, Finset.sum_sub_distrib, ← Finset.mul_sum, ← Finset.mul_sum]
  simp only [Finset.sum_ite_eq', Finset.mem_univ, if_true]
  have : g.val = 0 ↔ g = 0 := ⟨fun h => Fin.ext h, fun h => congrArg Fin.val h⟩
  rw [if_congr this rfl rfl]
  split <;> ring

/-! ## The array of partial sums -/

variable (m : (ℓ : Loc nD τ sig) → Buf (Elt Ideal) ℓ)

/-- The elements of the array of partial sums add up to the corrections of all rows. -/
theorem sums_total (d : Dev nD) (hg : ∀ i : Fin 1024, (goldAt m d i).toNat < 100000) (x : Fin 1024 → Fin 100000 → ℝ)
    (hx : ∀ r j, (m (pLoc d) : FVec Ideal S1024x100000 .f32) (ix2 r j) = (x r j : EReal)) :
    ∑ i : S32x16.Idx, (show FVec Ideal S32x16 .f32 from sumsArr m d) i = ((∑ r, corr ⟨(goldAt m d r).toNat, hg r⟩ (x r) : ℝ) : EReal) := by
  have hr : ∀ (w : Fin 32) (r : Fin 32), rowOf w r.val = ⟨32 * w.val + r.val, by omega⟩ := fun w r =>
    Fin.ext (Nat.mod_eq_of_lt (by omega))
  have hl : ∀ (w : Fin 32) (l : Fin 16), (show FVec Ideal S32x16 .f32 from sumsArr m d) (ix2 w l)
      = ((∑ r : Fin 32, laneR (goldAt m d (rowOf w r)).toNat l (x (rowOf w r) ⟨(goldAt m d (rowOf w r)).toNat, hg _⟩) (x (rowOf w r) ⟨l.val, by omega⟩) : ℝ) : EReal) := fun w l => by
    refine accN_apply (fun r => goldAt m d (rowOf w r)) (win6 m d w) (win7 m d w) l (fun r => x (rowOf w r) ⟨l.val, by omega⟩)
      (fun r => x (rowOf w r) ⟨(goldAt m d (rowOf w r)).toNat, hg _⟩) (fun r h => ?_) (fun r => ?_) 32
    · have hgr := hg (rowOf w r)
      have e : (⟨(colOf (goldAt m d (rowOf w r)) + l.val) % 100000, Nat.mod_lt _ (by norm_num)⟩ : Fin 100000) = ⟨(goldAt m d (rowOf w r)).toNat, hg _⟩ := by
        apply Fin.ext
        show (colOf (goldAt m d (rowOf w r)) + l.val) % 100000 = (goldAt m d (rowOf w r)).toNat
        unfold colOf
        rw [andi_high]
        omega
      show predAt m d (rowOf w r) (colOf (goldAt m d (rowOf w r)) + l.val) = _
      unfold predAt
      rw [e]
      exact hx _ _
    · have e : (⟨l.val % 100000, Nat.mod_lt _ (by norm_num)⟩ : Fin 100000) = ⟨l.val, by omega⟩ := Fin.ext (Nat.mod_eq_of_lt (by omega))
      show predAt m d (rowOf w r) l.val = _
      unfold predAt
      rw [e]
      exact hx _ _
  rw [sum_idx2, ← sum_groups, ← coe_sum]
  refine Finset.sum_congr rfl fun w _ => ?_
  rw [Finset.sum_congr rfl fun l _ => hl w l, coe_sum, Finset.sum_comm]
  congr 1
  refine Finset.sum_congr rfl fun r _ => ?_
  rw [← hr w r]
  exact lanes_eq ⟨(goldAt m d (rowOf w r)).toNat, hg _⟩ (x (rowOf w r))

end Cert.Proof.Sc

end
-- ==== Proof.DenseSum.lean ====
/-
  What the dense sum holds at the ideal values: the sum of all predictions.
-/
module

public import proofs.«01_k».proof.Proof.Consts
public import proofs.«01_k».proof.Proof.Dense
public import Idealize.ShloMosaic.Lib.IdealHost
public import Idealize.ShloMosaic.PureOps.Ideal.Laws

@[expose] public section

noncomputable section

namespace Cert.Proof.Sc

open Cert.KernelIdeal Cert.KernelIdeal.Gen
open Idealize.ShloMosaic Idealize.ShloMosaic.ValueIdx
open scoped BigOperators

/-- The sum over a block, recast, is the sum over the block. -/
theorem block_sum (v : FVec Ideal S16x100000 .f32) :
    extractAt ![0, 0, 0] (shapeCast S1x1x1 (multiReduction .add [1, 2] S1 (shapeCast S1x16x100000 v shapeCasts_S16x100000_S1x16x100000) 0x00000000#32
      reduces_S1x16x100000_S1 (.inl rfl) rfl) shapeCasts_S1_S1x1x1) inpos_S1x1x1_p0_0_0 = ∑ i, v i := by
  refine (Ideal.multiReduction_add_total (shapeCast S1x16x100000 v shapeCasts_S16x100000_S1x16x100000) 0x00000000#32 reduces_S1x16x100000_S1
    (fun b => by match b with | ⟨0, _⟩ => rfl) (.inl rfl) rfl _).trans ?_
  exact Equiv.sum_comp (Shape.reshapeEquiv shapeCasts_S16x100000_S1x16x100000) v

/-- One grid point adds its two blocks. -/
theorem pay_eq (s : EReal) (v w : FVec Ideal S16x100000 .f32) : k0_pay1 (F := Ideal) s v w = s + (∑ i, v i + ∑ i, w i) := by
  show s + (extractAt ![0, 0, 0] (shapeCast S1x1x1 (multiReduction .add [1, 2] S1 (shapeCast S1x16x100000 v shapeCasts_S16x100000_S1x16x100000) 0x00000000#32
      reduces_S1x16x100000_S1 (.inl rfl) rfl) shapeCasts_S1_S1x1x1) inpos_S1x1x1_p0_0_0 + extractAt ![0, 0, 0] (shapeCast S1x1x1 (multiReduction .add [1, 2] S1
        (shapeCast S1x16x100000 w shapeCasts_S16x100000_S1x16x100000) 0x00000000#32 reduces_S1x16x100000_S1 (.inl rfl) rfl) shapeCasts_S1_S1x1x1) inpos_S1x1x1_p0_0_0) = _
  rw [block_sum, block_sum]

variable (m : (ℓ : Loc nD τ sig) → Buf (Elt Ideal) ℓ)

/-- An element of the first block of a point. -/
theorem blkA_apply (d : Dev nD) (t : Fin cfg0.N) (a : Fin 16) (j : Fin 100000) (h : 32 * t.val + a.val < 1024) :
    (blkA m d t : FVec Ideal S16x100000 .f32) (ix2 a j) = (m (pLoc d) : FVec Ideal S1024x100000 .f32) (ix2 ⟨32 * t.val + a.val, h⟩ j) := by
  refine congrArg (m (pLoc d)) (funext fun b => Fin.ext ?_)
  match b with
  | ⟨0, _⟩ =>
    show cc0_transform_0 (grid0.coords t) 0 * 16 + 1 * a.val = 32 * t.val + a.val
    unfold cc0_transform_0
    show (Scalar.muli 2#32 (BitVec.ofNat 32 (grid0.coords t 0).val)).toNat * 16 + 1 * a.val = _
    rw [coords_val]
    simp only [Scalar.muli, IntOp.muli, BitVec.toNat_mul, BitVec.toNat_ofNat]
    omega
  | ⟨1, _⟩ =>
    show cc0_transform_0 (grid0.coords t) 1 * 100000 + 1 * j.val = j.val
    show 0 * 100000 + 1 * j.val = j.val
    omega

/-- An element of the second block of a point. -/
theorem blkB_apply (d : Dev nD) (t : Fin cfg0.N) (a : Fin 16) (j : Fin 100000) (h : 32 * t.val + (16 + a.val) < 1024) :
    (blkB m d t : FVec Ideal S16x100000 .f32) (ix2 a j) = (m (pLoc d) : FVec Ideal S1024x100000 .f32) (ix2 ⟨32 * t.val + (16 + a.val), h⟩ j) := by
  refine congrArg (m (pLoc d)) (funext fun b => Fin.ext ?_)
  match b with
  | ⟨0, _⟩ =>
    show cc0_transform_1 (grid0.coords t) 0 * 16 + 1 * a.val = 32 * t.val + (16 + a.val)
    unfold cc0_transform_1
    show (Scalar.addi (Scalar.muli 2#32 (BitVec.ofNat 32 (grid0.coords t 0).val)) 1#32).toNat * 16 + 1 * a.val = _
    rw [coords_val]
    simp only [Scalar.muli, IntOp.muli, Scalar.addi, IntOp.addi, BitVec.toNat_mul, BitVec.toNat_add, BitVec.toNat_ofNat]
    omega
  | ⟨1, _⟩ =>
    show cc0_transform_1 (grid0.coords t) 1 * 100000 + 1 * j.val = j.val
    show 0 * 100000 + 1 * j.val = j.val
    omega

/-- A row of the predictions, summed. -/
def rowSum (d : Dev nD) (r : Fin 1024) : EReal := ∑ j : Fin 100000, (m (pLoc d) : FVec Ideal S1024x100000 .f32) (ix2 r j)

/-- The two blocks of a point are its thirty-two rows. -/
theorem point_sum (d : Dev nD) (t : Fin 32) (h : t.val < cfg0.N) :
    ∑ i, (blkA m d ⟨t.val, h⟩ : FVec Ideal S16x100000 .f32) i + ∑ i, (blkB m d ⟨t.val, h⟩ : FVec Ideal S16x100000 .f32) i
      = ∑ r : Fin 32, rowSum m d ⟨32 * t.val + r.val, by omega⟩ := by
  rw [sum_idx2, sum_idx2, Fin.sum_univ_add (a := 16) (b := 16)]
  refine congrArg₂ HAdd.hAdd ?_ ?_
  · exact Finset.sum_congr rfl fun a _ => Finset.sum_congr rfl fun j _ => blkA_apply m d ⟨t.val, h⟩ a j (by show 32 * t.val + a.val < 1024; omega)
  · exact Finset.sum_congr rfl fun a _ => Finset.sum_congr rfl fun j _ => blkB_apply m d ⟨t.val, h⟩ a j (by show 32 * t.val + (16 + a.val) < 1024; omega)

/-- The running sum after a point. -/
theorem accAt_eq (d : Dev nD) (n : ℕ) (h : n < cfg0.N) (h' : n < 32) :
    (accAt m d n h : EReal) = ∑ t : Fin (n + 1), ∑ r : Fin 32, rowSum m d ⟨32 * t.val + r.val, by omega⟩ := by
  induction n with
  | zero =>
    refine (pay_eq _ _ _).trans ?_
    show Ideal.ofBits .f32 0x00000000#32 + _ = _
    rw [Ideal.ofBits_zero_f32, zero_add, Fin.sum_univ_one]
    exact point_sum m d 0 h
  | succ n ih =>
    refine (pay_eq _ _ _).trans ?_
    rw [Fin.sum_univ_castSucc, ih (Nat.lt_of_succ_lt h) (by omega)]
    exact congrArg _ (point_sum m d ⟨n + 1, h'⟩ h)

/-- The dense sum is the sum of all predictions. -/
theorem dense_total (d : Dev nD) : (accAt m d 31 (by decide) : EReal) = ∑ r, rowSum m d r := by
  rw [accAt_eq m d 31 (by decide) (by norm_num), ← sum_groups]

end Cert.Proof.Sc

end
-- ==== Proof.RefTable.lean ====
/-
  The reference's table of probabilities at one element: the confidence at the row's gold column, nothing at column 0,
  the smoothing value elsewhere.
-/
module

public import proofs.«01_k».proof.Proof.Consts
public import proofs.«01_k».proof.Proof.Gen.ReferenceIdeal.Run
public import Idealize.ShloMosaic.Lib.Routing.OpsPair
public import Idealize.ShloMosaic.Lib.Routing.OpsOne
public import Idealize.ShloMosaic.Lib.Routing.OpsSet
public import Idealize.ShloMosaic.Lib.Pipeline.Value

@[expose] public section

noncomputable section

namespace Cert.Proof.Sc

open Cert.ReferenceIdeal Cert.ReferenceIdeal.Gen
open Idealize.ShloMosaic Idealize.ShloMosaic.ValueIdx Idealize.ShloMosaic.Routing

/-- The row every example starts from. -/
def baseRow : FVec Ideal S100000 .f32 :=
  Host.scatter scatter_S100000_S1_S__n_0_0_0 (fun _ b => b)
    (broadcastInDim S100000 ![] bcast_S_S100000 (Host.divf (Host.divf (constant S_ .f32 0x3F800000#32) (constant S_ .f32 0x41200000#32)) (constant S_ .f32 0x47C34F00#32)))
    (broadcastInDim S1 ![] bcast_S_S1 (constantI S_ 32 0#32)) (constant S_ .f32 0x00000000#32)

/-- That row, repeated over the examples. -/
def baseTab : FVec Ideal S1024x100000 .f32 :=
  shapeCast _ (broadcastInDim S1024x1x1x100000 ![0, 1, 2, 3] bcast_S1x1x1x100000_S1024x1x1x100000_0_1_2_3
    (shapeCast _ (broadcastInDim S1x100000 ![1] bcast_S100000_S1x100000_1 baseRow) shapeCasts_S1x100000_S1x1x1x100000)) shapeCasts_S1024x1x1x100000_S1024x100000

/-- The pairs of index words: the row and its gold column. -/
def idxTab (g : IVec S1024 32) : IVec S1024x2 32 :=
  concatenate S1024x2 1
    [⟨S1024x1, (broadcastInDim S1024x1 ![0] bcast_S1024_S1024x1_0 (select (cmpi .slt (iotaInDim S1024 32 0) (broadcastInDim S1024 ![] bcast_S_S1024 (constantI S_ 32 0#32)))
        (addi (iotaInDim S1024 32 0) (broadcastInDim S1024 ![] bcast_S_S1024 (constantI S_ 32 1024#32))) (iotaInDim S1024 32 0)))⟩,
      ⟨S1024x1, (broadcastInDim S1024x1 ![0] bcast_S1024_S1024x1_0 (select (cmpi .slt g (broadcastInDim S1024 ![] bcast_S_S1024 (constantI S_ 32 0#32)))
        (addi g (broadcastInDim S1024 ![] bcast_S_S1024 (constantI S_ 32 100000#32))) g))⟩] concatenates_S1024x1_S1024x1_S1024x2_d1

/-- The table of probabilities. -/
def probTab (g : IVec S1024 32) : FVec Ideal S1024x100000 .f32 :=
  Host.scatter scatter_S1024x100000_S1024x2_S1024_n_01_01_1 (fun _ b => b) baseTab (idxTab g)
    (broadcastInDim S1024 ![] bcast_S_S1024 (subf (constant S_ .f32 0x3F800000#32) (Host.divf (constant S_ .f32 0x3F800000#32) (constant S_ .f32 0x41200000#32))))

/-- The row at a column. -/
theorem baseRow_apply (j : Fin 100000) : baseRow (ix1 j) = ((if j = 0 then 0 else sR : ℝ) : EReal) := by
  have hl := fun e : Fin 100000 => lands_one scatter_S100000_S1_S__n_0_0_0 rfl rfl (broadcastInDim S1 ![] bcast_S_S1 (constantI S_ 32 0#32)) (0 : Fin 100000) rfl e
  unfold baseRow
  by_cases h : j = 0
  · rw [if_pos h]
    refine (scatter_set_hit _ _ _ _ _ (constant (F := Ideal) S_ .f32 0x00000000#32 ix0) (fun k _ => rfl) ix0 ((hl j).2 h)).trans ?_
    exact Ideal.ofBits_zero_f32
  · rw [if_neg h]
    refine (scatter_set_miss _ _ _ _ _ fun k hk => h ((hl j).1 ?_)).trans ?_
    · rw [← eq_ix0 k]; exact hk
    · rw [broadcastInDim_scalar_apply]
      show Ideal.div (Ideal.div (Ideal.ofBits .f32 0x3F800000#32) (Ideal.ofBits .f32 0x41200000#32)) (Ideal.ofBits .f32 0x47C34F00#32) = _
      rw [tenth_eq, smooth_eq]

/-- The repeated row at an element. -/
theorem baseTab_apply (r : Fin 1024) (j : Fin 100000) : baseTab (ix2 r j) = baseRow (ix1 j) := by
  unfold baseTab
  refine (shapeCast_apply _ _ _ (ix4 r (0 : Fin 1) (0 : Fin 1) j) ?_).trans ?_
  · rw [Shape.rowMajor_val_two, Shape.rowMajor_val_four]
    show ((r.val * 1 + 0) * 1 + 0) * 100000 + j.val = r.val * 100000 + j.val
    omega
  refine (broadcastInDim_apply _ _ _ _ (ix4 (0 : Fin 1) (0 : Fin 1) (0 : Fin 1) j) ?_).trans ?_
  · intro a
    match a with
    | ⟨0, _⟩ => rfl
    | ⟨1, _⟩ => rfl
    | ⟨2, _⟩ => rfl
    | ⟨3, _⟩ => rfl
  refine (shapeCast_apply _ _ _ (ix2 (0 : Fin 1) j) ?_).trans ?_
  · rw [Shape.rowMajor_val_two, Shape.rowMajor_val_four]
    show 0 * 100000 + j.val = ((0 * 1 + 0) * 1 + 0) * 100000 + j.val
    omega
  refine broadcastInDim_apply _ _ _ _ (ix1 j) ?_
  intro a
  match a with
  | ⟨0, _⟩ => rfl

/-- The first word of a pair: the row. -/
theorem idxTab_row (g : IVec S1024 32) (r : Fin 1024) : idxTab g (ix2 r (0 : Fin 2)) = BitVec.ofNat 32 r.val := by
  unfold idxTab
  refine (concatenate_pair_apply_left (t := S1024x2) (s₁ := S1024x1) (s₂ := S1024x1) 1 _ _ _ (ix2 r (0 : Fin 2)) rfl (ix2 r (0 : Fin 1)) ?_).trans ?_
  · intro b
    match b with
    | ⟨0, _⟩ => rfl
    | ⟨1, _⟩ => rfl
  refine (broadcastInDim_apply _ _ _ _ (ix1 r) ?_).trans ?_
  · intro a
    match a with
    | ⟨0, _⟩ => rfl
  refine wrap_of_lt (BitVec.ofNat 32 r.val) _ ?_
  rw [BitVec.toNat_ofNat]
  have := r.isLt
  omega

/-- The second word of a pair: the row's gold word. -/
theorem idxTab_col (g : IVec S1024 32) (r : Fin 1024) (hg : (g (ix1 r)).toNat < 100000) : idxTab g (ix2 r (1 : Fin 2)) = g (ix1 r) := by
  unfold idxTab
  refine (concatenate_pair_apply_right (t := S1024x2) (s₁ := S1024x1) (s₂ := S1024x1) 1 _ _ _ (ix2 r (1 : Fin 2)) rfl rfl (ix2 r (0 : Fin 1)) ?_ ?_).trans ?_
  · intro b hb
    match b with
    | ⟨0, _⟩ => rfl
    | ⟨1, _⟩ => exact absurd rfl hb
  · rfl
  refine (broadcastInDim_apply _ _ _ _ (ix1 r) ?_).trans ?_
  · intro a
    match a with
    | ⟨0, _⟩ => rfl
  exact wrap_of_lt (g (ix1 r)) _ (by omega)

/-- An update of a scatter of `N` scalars into a matrix, a pair of index words each, lands at `(r, c)` exactly when its
    words, read signed, are `r` and `c`. -/
theorem lands_pairs {R C N w : Nat} (d : ScatterDims (shape2 R C) (shape2 N 2) (shape1 N)) (hiw : d.insertedWindowDims = [0, 1])
    (hsd : d.scatterDimsToOperandDims = [0, 1]) (hivd : d.indexVectorDim = 1) (idx : IVec (shape2 N 2) w) (a : Fin N) (r : Fin R) (c : Fin C) :
    d.resultIdx? (ix1 a) idx = some (ix2 r c) ↔ (idx (ix2 a (0 : Fin 2))).toInt = r.val ∧ (idx (ix2 a (1 : Fin 2))).toInt = c.val := by
  have hm : ∀ q : Fin 2, q ∈ d.scatterDimsToOperandDims := fun q => by rw [hsd]; fin_cases q <;> simp
  have hwin : ∀ q : Fin 2, d.window (ix1 a) q = 0 := fun q => by
    unfold ScatterDims.window
    rw [dif_neg fun h => (of_decide_eq_true (List.mem_filter.1 h).2) (by rw [hiw]; fin_cases q <;> simp)]
  have hsi : ∀ q : Fin 2, d.siIdx (ix1 a) ⟨d.scatterDimsToOperandDims.idxOf q, List.idxOf_lt_length_iff.2 (hm q)⟩ = ix2 a q := fun q => by
    funext b'
    apply Fin.ext
    match b' with
    | ⟨0, _⟩ =>
      unfold ScatterDims.siIdx
      rw [dif_neg (by rw [hivd]; exact (by decide : (0 : ℕ) ≠ 1))]
      unfold ScatterDims.siCoord
      simp only [Fin.val_cast]
      exact congrArg (fun t : Fin 1 => (ix1 a t).val) (Subsingleton.elim _ (0 : Fin 1))
    | ⟨1, _⟩ =>
      unfold ScatterDims.siIdx
      rw [dif_pos (by rw [hivd])]
      show List.idxOf q d.scatterDimsToOperandDims = q.val
      rw [hsd]
      fin_cases q <;> rfl
  have hstart : ∀ q : Fin 2, d.start (ix1 a) idx q = (idx (ix2 a q)).toInt := fun q => by
    unfold ScatterDims.start
    rw [dif_pos (hm q), hsi]
  rw [resultIdx?_ix2, hstart, hstart, hwin, hwin]
  omega

/-- The gold column of a row. -/
def goldFin (g : BitVec 32) (h : g.toNat < 100000) : Fin 100000 := ⟨g.toNat, h⟩

/-- The table of probabilities at an element. -/
theorem probTab_apply (g : IVec S1024 32) (hg : ∀ r, (g r).toNat < 100000) (r : Fin 1024) (j : Fin 100000) :
    probTab g (ix2 r j) = ((prob (goldFin (g (ix1 r)) (hg _)) j : ℝ) : EReal) := by
  have hl : ∀ a : Fin 1024, scatter_S1024x100000_S1024x2_S1024_n_01_01_1.resultIdx? (ix1 a) (idxTab g) = some (ix2 r j)
      ↔ a = r ∧ j = goldFin (g (ix1 a)) (hg _) := fun a => by
    refine (lands_pairs scatter_S1024x100000_S1024x2_S1024_n_01_01_1 rfl rfl rfl (idxTab g) a r j).trans ?_
    rw [idxTab_row, idxTab_col g a (hg _), WordCmp.toInt_eq_toNat_of_lt_half (x := BitVec.ofNat 32 a.val) (by rw [BitVec.toNat_ofNat]; have := a.isLt; omega),
      WordCmp.toInt_eq_toNat_of_lt_half (x := g (ix1 a)) (by have := hg (ix1 a); omega), BitVec.toNat_ofNat, Fin.ext_iff, Fin.ext_iff]
    show _ ↔ a.val = r.val ∧ j.val = (g (ix1 a)).toNat
    have := a.isLt
    constructor <;> rintro ⟨h1, h2⟩ <;> constructor <;> omega
  unfold probTab prob
  by_cases h : j = goldFin (g (ix1 r)) (hg _)
  · rw [if_pos h]
    refine (scatter_set_hit _ _ _ _ _ (cR : EReal) (fun k _ => ?_) (ix1 r) ((hl r).2 ⟨rfl, h⟩)).trans rfl
    rw [broadcastInDim_scalar_apply]
    show Ideal.ofBits .f32 0x3F800000#32 - Ideal.div (Ideal.ofBits .f32 0x3F800000#32) (Ideal.ofBits .f32 0x41200000#32) = _
    rw [tenth_eq, conf_eq]
  · rw [if_neg h]
    refine (scatter_set_miss _ _ _ _ _ fun k hk => h ?_).trans ?_
    · obtain ⟨a, rfl⟩ : ∃ a : Fin 1024, k = ix1 a := ⟨k 0, eq_ix1 k⟩
      obtain ⟨rfl, e⟩ := (hl a).1 hk
      exact e
    · rw [baseTab_apply, baseRow_apply]

end Cert.Proof.Sc

end
-- ==== Proof.RefValue.lean ====
/-
  The reference's result: the sum of its elements, as a real number.
-/
module

public import proofs.«01_k».proof.Proof.RefTable
public import Idealize.ShloMosaic.Lib.ValueIdxCore

@[expose] public section

noncomputable section

namespace Cert.Proof.Sc

open Cert.ReferenceIdeal Cert.ReferenceIdeal.Gen
open Idealize.ShloMosaic Idealize.ShloMosaic.TcCoe Idealize.SL.Sem Idealize.ShloMosaic.ValueIdx
open scoped BigOperators

/-- One element of the reference as the program computes it. -/
def refElem (p x : EReal) : EReal :=
  Scalar.select (Ideal.cmp .ogt p (Ideal.ofBits .f32 0x00000000#32))
    (p * (Ideal.log (Scalar.select (Ideal.cmp .ogt p (Ideal.ofBits .f32 0x00000000#32)) p (Ideal.ofBits .f32 0x3F800000#32)) - x))
    (Ideal.ofBits .f32 0x00000000#32)

theorem refElem_coe (p x : ℝ) : refElem p x = ((refTerm p x : ℝ) : EReal) := by
  have hc : Ideal.cmp .ogt (p : EReal) (Ideal.ofBits .f32 0x00000000#32) = BitVec.ofBool (decide (0 < p)) := by
    rw [Ideal.ofBits_zero_f32]
    show BitVec.ofBool (decide ((0 : EReal) < p)) = _
    rw [decide_eq_decide.2 EReal.coe_pos]
  unfold refElem refTerm
  rw [hc, WordCmp.select_decide, WordCmp.select_decide]
  by_cases h : 0 < p
  · rw [if_pos h, if_pos h, if_pos h, log_pos h, ← EReal.coe_sub, ← EReal.coe_mul]
  · rw [if_neg h, if_neg h, Ideal.ofBits_zero_f32, EReal.coe_zero]

/-- The array the reference sums, from its table of probabilities. -/
def refArr (P x : FVec Ideal S1024x100000 .f32) : FVec Ideal S1024x100000 .f32 :=
  select (cmpf .ogt P (broadcastInDim S1024x100000 ![] bcast_S_S1024x100000 (constant S_ .f32 0x00000000#32)))
    (mulf P (subf (Host.log (select (cmpf .ogt P (broadcastInDim S1024x100000 ![] bcast_S_S1024x100000 (constant S_ .f32 0x00000000#32)))
      P (broadcastInDim S1024x100000 ![] bcast_S_S1024x100000 (id (constant S_ .f32 0x3F800000#32))))) x))
    (broadcastInDim S1024x100000 ![] bcast_S_S1024x100000 (constant S_ .f32 0x00000000#32))

theorem refArr_apply (P x : FVec Ideal S1024x100000 .f32) (i : S1024x100000.Idx) : refArr P x i = refElem (P i) (x i) := rfl

/-- The program's term of the reference is the sum of that array. -/
theorem res_eq (m : (ℓ : Loc nD τ sig) → Buf (Elt Ideal) ℓ) (c : Dev nD) :
    Value.res_main_v35 m c = Host.reduceAdd (refArr (probTab (m ((c.tc : Thread nD τ).loc main_arg1))) (m ((c.tc : Thread nD τ).loc main_arg0)))
      (constant S_ .f32 0x00000000#32) reducesTo_S1024x100000_S_d0_1 h_S_ := by
  unfold Value.res_main_v35 refArr probTab idxTab baseTab baseRow
  rfl

/-- The reference's result for real predictions. -/
theorem ref_value (m : (ℓ : Loc nD τ sig) → Buf (Elt Ideal) ℓ) (c : Dev nD)
    (hg : ∀ r : S1024.Idx, ((m ((c.tc : Thread nD τ).loc main_arg1) : IVec S1024 32) r).toNat < 100000) (x : Fin 1024 → Fin 100000 → ℝ)
    (hx : ∀ r j, (m ((c.tc : Thread nD τ).loc main_arg0) : FVec Ideal S1024x100000 .f32) (ix2 r j) = (x r j : EReal)) (i : S_.Idx) :
    (Value.res_main_v35 m c : FVec Ideal S_ .f32) i
      = ((∑ r, ∑ j, refTerm (prob (goldFin ((m ((c.tc : Thread nD τ).loc main_arg1) : IVec S1024 32) (ix1 r)) (hg _)) j) (x r j) : ℝ) : EReal) := by
  rw [res_eq, hostReduceAdd_apply, Ideal.hostReduceAdd_total _ (fun b => b.elim0)]
  show Ideal.ofBits .f32 0x00000000#32 + _ = _
  rw [Ideal.ofBits_zero_f32, zero_add, sum_idx2, ← coe_sum]
  refine Finset.sum_congr rfl fun r _ => ?_
  rw [← coe_sum]
  refine Finset.sum_congr rfl fun j _ => ?_
  rw [refArr_apply, probTab_apply _ hg, hx, refElem_coe]

end Cert.Proof.Sc

end
-- ==== Proof.Value.lean ====
/-
  The equation: over the reals the kernel's result is the reference's, for gold columns of the table and finite predictions.
-/
module

public import proofs.«01_k».proof.Proof.KernelSum
public import proofs.«01_k».proof.Proof.DenseSum
public import proofs.«01_k».proof.Proof.RefValue
public import proofs.«01_k».proof.Proof.Pre
public import proofs.«01_k».proof.Proof.Run

@[expose] public section

noncomputable section

namespace Cert.Proof.Sc

open Idealize.ShloMosaic Idealize.ShloMosaic.TcCoe Idealize.SL.Sem Idealize.ShloMosaic.ValueIdx
open scoped BigOperators

attribute [local instance] Cert.KernelIdeal.Gen.facts Cert.ReferenceIdeal.Gen.facts Cert.Pre_drawn_finite.Gen.facts

section Kernel

open Cert.KernelIdeal Cert.KernelIdeal.Gen

/-- The host's last operations on the two sums, as real numbers. -/
theorem host_eq (P S : ℝ) :
    (Ideal.ofBits .f32 0x44800000#32
        * (Ideal.ofBits .f32 0x47C34F00#32 * Ideal.div (Ideal.div (Ideal.ofBits .f32 0x3F800000#32) (Ideal.ofBits .f32 0x41200000#32)) (Ideal.ofBits .f32 0x47C34F00#32)
            * Ideal.log (Ideal.div (Ideal.div (Ideal.ofBits .f32 0x3F800000#32) (Ideal.ofBits .f32 0x41200000#32)) (Ideal.ofBits .f32 0x47C34F00#32))
          + (Ideal.ofBits .f32 0x3F800000#32 - Ideal.div (Ideal.ofBits .f32 0x3F800000#32) (Ideal.ofBits .f32 0x41200000#32))
            * Ideal.log (Ideal.ofBits .f32 0x3F800000#32 - Ideal.div (Ideal.ofBits .f32 0x3F800000#32) (Ideal.ofBits .f32 0x41200000#32)))
      - Ideal.div (Ideal.div (Ideal.ofBits .f32 0x3F800000#32) (Ideal.ofBits .f32 0x41200000#32)) (Ideal.ofBits .f32 0x47C34F00#32) * (P : EReal))
      + (Ideal.ofBits .f32 0x00000000#32 + (S : EReal)) = ((1024 * k1R - sR * P + S : ℝ) : EReal) := by
  rw [tenth_eq, smooth_eq, conf_eq, log_pos sR_pos, log_pos cR_pos, ofBits_1024, ofBits_99998, Ideal.ofBits_zero_f32, zero_add]
  simp only [← EReal.coe_mul, ← EReal.coe_add, ← EReal.coe_sub]
  rfl

/-- The kernel's result for real predictions. -/
theorem kernel_value (m : (ℓ : Loc nD τ sig) → Buf (Elt Ideal) ℓ) (d : Dev nD) (hg : ∀ i : Fin 1024, (goldAt m d i).toNat < 100000)
    (x : Fin 1024 → Fin 100000 → ℝ) (hx : ∀ r j, (m (pLoc d) : FVec Ideal S1024x100000 .f32) (ix2 r j) = (x r j : EReal)) (i : S_.Idx) :
    (outVal m d : FVec Ideal S_ .f32) i
      = ((1024 * k1R - sR * (∑ r, ∑ j, x r j) + ∑ r, corr ⟨(goldAt m d r).toNat, hg r⟩ (x r) : ℝ) : EReal) := by
  have hP : (shapeCast S_ (show FVec Ideal S1x1 .f32 from sumArr m d) shapeCasts_S1x1_S_) i = ((∑ r, ∑ j, x r j : ℝ) : EReal) := by
    refine (dense_total m d).trans ?_
    rw [← coe_sum]
    refine Finset.sum_congr rfl fun r _ => ?_
    rw [← coe_sum]
    exact Finset.sum_congr rfl fun j _ => hx r j
  have hS : Host.reduceAdd (show FVec Ideal S32x16 .f32 from sumsArr m d) (constant S_ .f32 0x00000000#32) reducesTo_S32x16_S_d0_1 h_S_ i
      = Ideal.ofBits .f32 0x00000000#32 + ((∑ r, corr ⟨(goldAt m d r).toNat, hg r⟩ (x r) : ℝ) : EReal) := by
    rw [hostReduceAdd_apply, Ideal.hostReduceAdd_total _ (fun b => b.elim0), sums_total m d hg x hx]
    rfl
  refine Eq.trans ?_ (host_eq _ _)
  rw [← hP, ← hS]
  rfl

end Kernel

/-- The two results are equal. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.Pre_drawn_finite.fn (F := Ideal) (m (pLoc c)) (m (gLoc c)) = fun _ => 1#1)
    (h0 : m' ((c.tc : Thread Cert.ReferenceIdeal.nD Cert.ReferenceIdeal.τ).loc Cert.ReferenceIdeal.main_arg0) = m (pLoc c))
    (h1 : m' ((c.tc : Thread Cert.ReferenceIdeal.nD Cert.ReferenceIdeal.τ).loc Cert.ReferenceIdeal.main_arg1) = m (gLoc c)) :
    Cert.ReferenceIdeal.Value.res_main_v35 m' c = outVal m c := by
  have hlt := drawn_finite_lt _ _ hp
  choose x hx using fun (r : Fin 1024) (j : Fin 100000) => drawn_finite_real _ _ hp (ix2 r j)
  have hgold : ∀ r : Cert.ReferenceIdeal.S1024.Idx,
      ((m' ((c.tc : Thread Cert.ReferenceIdeal.nD Cert.ReferenceIdeal.τ).loc Cert.ReferenceIdeal.main_arg1) : IVec Cert.ReferenceIdeal.S1024 32) r).toNat < 100000 := by
    rw [h1]; exact hlt
  funext i
  refine (ref_value m' c hgold x (by rw [h0]; exact hx) i).trans ?_
  refine Eq.trans ?_ (kernel_value m c (fun r => hlt (ix1 r)) x hx i).symm
  rw [total_eq]
  have e : ∀ r : Fin 1024, goldFin ((m' ((c.tc : Thread Cert.ReferenceIdeal.nD Cert.ReferenceIdeal.τ).loc Cert.ReferenceIdeal.main_arg1) : IVec Cert.ReferenceIdeal.S1024 32) (ix1 r)) (hgold _)
      = ⟨(goldAt m c r).toNat, hlt (ix1 r)⟩ := fun r => Fin.ext (by
    show ((m' ((c.tc : Thread Cert.ReferenceIdeal.nD Cert.ReferenceIdeal.τ).loc Cert.ReferenceIdeal.main_arg1) : IVec Cert.ReferenceIdeal.S1024 32) (ix1 r)).toNat = _
    rw [h1]; rfl)
  simp only [e]

/-- The algebraic claim. -/
theorem algebraic : Cert.algebraic_KernelIdeal_ReferenceIdeal_pre_drawn_finite := fun m g m' g' hp hm =>
  ⟨fun c => outVal m c,
    (θ_run Cert.KernelIdeal.defs _ _).mono (fun _ h => h.1) (run_main m g (fun d => drawn_finite_lt _ _ (hp d))),
    (θ_run Cert.ReferenceIdeal.defs _ _).mono (fun _ h c => ⟨(h c).1.trans (value_eq m m' c (hp c) (hm c).1 (hm c).2), (h c).2⟩)
      (Cert.ReferenceIdeal.Value.run m' g')⟩

end Cert.Proof.Sc

end
-- ==== Proof.lean ====
/-
  The proof of the certificate's claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_drawn
public import proofs.«01_k».proof.Proof.Gen.Pre_drawn_finite
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The frames of both kernels and of the reference, the named constants, and the equation of the two results. -/
theorem claim : Cert.Claim :=
  ⟨Cert.Kernel.Gen.facts, Cert.KernelIdeal.Gen.facts, Cert.ReferenceIdeal.Gen.facts, Cert.Pre_drawn.Gen.facts, Cert.Pre_drawn_finite.Gen.facts,
    Sc.frame_bits, Sc.frame_ideal, Sc.frame_ideal_finite, Sc.frame_ref, Sc.frame_ref_finite, Sc.named, Sc.algebraic⟩

end Cert.Proof

end
